-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x224x224 : Shape := ⟨4, ![2, 384, 224, 224]⟩
abbrev S2x384x112x112 : Shape := ⟨4, ![2, 384, 112, 112]⟩
abbrev S1x384x16x224 : Shape := ⟨4, ![1, 384, 16, 224]⟩
abbrev S1x384x8x112 : Shape := ⟨4, ![1, 384, 8, 112]⟩
abbrev S1x8x16x224 : Shape := ⟨4, ![1, 8, 16, 224]⟩
abbrev S8x16x224 : Shape := ⟨3, ![8, 16, 224]⟩
abbrev S1x16x224 : Shape := ⟨3, ![1, 16, 224]⟩
abbrev S16x224 : Shape := ⟨2, ![16, 224]⟩
abbrev S16x223 : Shape := ⟨2, ![16, 223]⟩
abbrev S16x1 : Shape := ⟨2, ![16, 1]⟩
abbrev S15x224 : Shape := ⟨2, ![15, 224]⟩
abbrev S1x224 : Shape := ⟨2, ![1, 224]⟩
abbrev S4x224 : Shape := ⟨2, ![4, 224]⟩
abbrev S8x224 : Shape := ⟨2, ![8, 224]⟩
abbrev S8x224x1 : Shape := ⟨3, ![8, 224, 1]⟩
abbrev S4x1 : Shape := ⟨2, ![4, 1]⟩
abbrev S4x223 : Shape := ⟨2, ![4, 223]⟩
abbrev S8x64 : Shape := ⟨2, ![8, 64]⟩
abbrev S8x128 : Shape := ⟨2, ![8, 128]⟩
abbrev S8x128x1 : Shape := ⟨3, ![8, 128, 1]⟩
abbrev S8x48 : Shape := ⟨2, ![8, 48]⟩
abbrev S8x96 : Shape := ⟨2, ![8, 96]⟩
abbrev S8x32 : Shape := ⟨2, ![8, 32]⟩
abbrev S8x80 : Shape := ⟨2, ![8, 80]⟩
abbrev S1x4x224 : Shape := ⟨3, ![1, 4, 224]⟩
abbrev S16x4x224 : Shape := ⟨3, ![16, 4, 224]⟩
abbrev S1x8x64 : Shape := ⟨3, ![1, 8, 64]⟩
abbrev S16x8x64 : Shape := ⟨3, ![16, 8, 64]⟩
abbrev S1x8x48 : Shape := ⟨3, ![1, 8, 48]⟩
abbrev S16x8x48 : Shape := ⟨3, ![16, 8, 48]⟩
abbrev S1x16x16x224 : Shape := ⟨4, ![1, 16, 16, 224]⟩
abbrev S16x16x224 : Shape := ⟨3, ![16, 16, 224]⟩
abbrev S16x8x224 : Shape := ⟨3, ![16, 8, 224]⟩
abbrev S16x8x224x1 : Shape := ⟨4, ![16, 8, 224, 1]⟩
abbrev S16x8x128 : Shape := ⟨3, ![16, 8, 128]⟩
abbrev S16x8x128x1 : Shape := ⟨4, ![16, 8, 128, 1]⟩
abbrev S1x16x8x64 : Shape := ⟨4, ![1, 16, 8, 64]⟩
abbrev S16x8x96 : Shape := ⟨3, ![16, 8, 96]⟩
abbrev S16x8x32 : Shape := ⟨3, ![16, 8, 32]⟩
abbrev S16x8x80 : Shape := ⟨3, ![16, 8, 80]⟩
abbrev S1x16x8x48 : Shape := ⟨4, ![1, 16, 8, 48]⟩

abbrev nBuf : Space → Nat
  | .hbm => 3
  | .vmem => 6
  | .smem => 0
  | _ => 0

abbrev bufTy : (tb : Table) → Fin (tcTables nBuf tb) → BufTy
  | .hbm, ⟨0, _⟩ => ⟨S2x384x224x224, .f32⟩
  | .hbm, ⟨1, _⟩ => ⟨S2x384x224x224, .f32⟩
  | .hbm, ⟨2, _⟩ => ⟨S2x384x112x112, .f32⟩
  | .local _ .vmem, ⟨0, _⟩ => ⟨S1x384x16x224, .f32⟩
  | .local _ .vmem, ⟨1, _⟩ => ⟨S1x384x16x224, .f32⟩
  | .local _ .vmem, ⟨2, _⟩ => ⟨S1x384x16x224, .f32⟩
  | .local _ .vmem, ⟨3, _⟩ => ⟨S1x384x16x224, .f32⟩
  | .local _ .vmem, ⟨4, _⟩ => ⟨S1x384x8x112, .f32⟩
  | .local _ .vmem, ⟨5, _⟩ => ⟨S1x384x8x112, .f32⟩
  | _, _ => ⟨S2x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 14], ![false, false]⟩

@[reducible] def k0_t1_loop : Scf.Loop 32 :=
  let c1_i32 : BitVec 32 := 1#32
  let c47_i32 : BitVec 32 := 47#32
  let v56 : BitVec 32 := Scalar.addi c1_i32 c47_i32
  let c1_i32_3 : BitVec 32 := 1#32
  ⟨c1_i32, v56, c1_i32_3⟩
def k0_off1 (k0_t1 : Fin k0_t1_loop.trips) : Fin 4 → Nat :=
  let c0_517 : Index := 0#32
  let c1_i32 : BitVec 32 := 1#32
  let c1_i32_3 : BitVec 32 := 1#32
  let arg5 : BitVec 32 := Scf.iv c1_i32 c1_i32_3 k0_t1
  let c8_i32_516 : BitVec 32 := 8#32
  let v1551 : BitVec 32 := Scalar.muli arg5 c8_i32_516
  let v1552 : Index := Scalar.indexCast v1551
  let c0_518 : Index := 0#32
  let c0_519 : Index := 0#32
  ![0, v1552.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x384x16x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x16x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x8x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x384x224x224 : Shape := ⟨4, ![2, 384, 224, 224]⟩
abbrev S2x1x224x224 : Shape := ⟨4, ![2, 1, 224, 224]⟩
abbrev S2x224x224 : Shape := ⟨3, ![2, 224, 224]⟩
abbrev S2x112x2x112x2 : Shape := ⟨5, ![2, 112, 2, 112, 2]⟩
abbrev S2x112x112x2x2 : Shape := ⟨5, ![2, 112, 112, 2, 2]⟩
abbrev S2x112x112x4 : Shape := ⟨4, ![2, 112, 112, 4]⟩
abbrev S_ : Shape := ⟨0, ![]⟩
abbrev S2x112x112 : Shape := ⟨3, ![2, 112, 112]⟩
abbrev S2x384x112x2x112x2 : Shape := ⟨6, ![2, 384, 112, 2, 112, 2]⟩
abbrev S2x112x112x384x2x2 : Shape := ⟨6, ![2, 112, 112, 384, 2, 2]⟩
abbrev S2x112x112x384x4 : Shape := ⟨5, ![2, 112, 112, 384, 4]⟩
abbrev S2x112x112x1x1 : Shape := ⟨5, ![2, 112, 112, 1, 1]⟩
abbrev S2x112x112x384x1 : Shape := ⟨5, ![2, 112, 112, 384, 1]⟩
abbrev S2x112x112x384x1x1 : Shape := ⟨6, ![2, 112, 112, 384, 1, 1]⟩
abbrev S1 : Shape := ⟨1, ![1]⟩
abbrev S1x1x1x1x1x1 : Shape := ⟨6, ![1, 1, 1, 1, 1, 1]⟩
abbrev S2x112x112x384 : Shape := ⟨4, ![2, 112, 112, 384]⟩
abbrev S2x384x112x112 : Shape := ⟨4, ![2, 384, 112, 112]⟩

abbrev nBuf : Space → Nat
  | .hbm => 44
  | .vmem => 0
  | .smem => 0
  | _ => 0

abbrev bufTy : (tb : Table) → Fin (tcTables nBuf tb) → BufTy
  | .hbm, ⟨0, _⟩ => ⟨S2x384x224x224, .f32⟩
  | .hbm, ⟨1, _⟩ => ⟨S2x384x224x224, .f32⟩
  | .hbm, ⟨2, _⟩ => ⟨S2x384x224x224, .f32⟩
  | .hbm, ⟨3, _⟩ => ⟨S2x384x224x224, .f32⟩
  | .hbm, ⟨4, _⟩ => ⟨S2x384x224x224, .f32⟩
  | .hbm, ⟨5, _⟩ => ⟨S2x1x224x224, .f32⟩
  | .hbm, ⟨6, _⟩ => ⟨S2x224x224, .f32⟩
  | .hbm, ⟨7, _⟩ => ⟨S2x112x2x112x2, .f32⟩
  | .hbm, ⟨8, _⟩ => ⟨S2x112x112x2x2, .f32⟩
  | .hbm, ⟨9, _⟩ => ⟨S2x112x112x4, .f32⟩
  | .hbm, ⟨10, _⟩ => ⟨S2x112x112x4, .i32⟩
  | .hbm, ⟨11, _⟩ => ⟨S_, .f32⟩
  | .hbm, ⟨12, _⟩ => ⟨S_, .i32⟩
  | .hbm, ⟨13, _⟩ => ⟨S2x112x112, .f32⟩
  | .hbm, ⟨14, _⟩ => ⟨S2x112x112, .i32⟩
  | .hbm, ⟨15, _⟩ => ⟨S2x384x112x2x112x2, .f32⟩
  | .hbm, ⟨16, _⟩ => ⟨S2x112x112x384x2x2, .f32⟩
  | .hbm, ⟨17, _⟩ => ⟨S2x112x112x384x4, .f32⟩
  | .hbm, ⟨18, _⟩ => ⟨S2x112x112x1x1, .i32⟩
  | .hbm, ⟨19, _⟩ => ⟨S2x112x112x384x1, .i32⟩
  | .hbm, ⟨20, _⟩ => ⟨S_, .i32⟩
  | .hbm, ⟨21, _⟩ => ⟨S2x112x112x384x1, .i32⟩
  | .hbm, ⟨22, _⟩ => ⟨S2x112x112x384x1, .i1⟩
  | .hbm, ⟨23, _⟩ => ⟨S_, .i32⟩
  | .hbm, ⟨24, _⟩ => ⟨S2x112x112x384x1, .i32⟩
  | .hbm, ⟨25, _⟩ => ⟨S2x112x112x384x1, .i32⟩
  | .hbm, ⟨26, _⟩ => ⟨S2x112x112x384x1, .i32⟩
  | .hbm, ⟨27, _⟩ => ⟨S2x112x112x384x1x1, .i32⟩
  | .hbm, ⟨28, _⟩ => ⟨S1, .i32⟩
  | .hbm, ⟨29, _⟩ => ⟨S_, .i32⟩
  | .hbm, ⟨30, _⟩ => ⟨S2x112x112x384x1x1, .i32⟩
  | .hbm, ⟨31, _⟩ => ⟨S2x112x112x384x1x1, .i1⟩
  | .hbm, ⟨32, _⟩ => ⟨S1x1x1x1x1x1, .i32⟩
  | .hbm, ⟨33, _⟩ => ⟨S2x112x112x384x1x1, .i32⟩
  | .hbm, ⟨34, _⟩ => ⟨S2x112x112x384x1x1, .i1⟩
  | .hbm, ⟨35, _⟩ => ⟨S2x112x112x384x1x1, .i1⟩
  | .hbm, ⟨36, _⟩ => ⟨S_, .i1⟩
  | .hbm, ⟨37, _⟩ => ⟨S2x112x112x384x1, .i1⟩
  | .hbm, ⟨38, _⟩ => ⟨S2x112x112x384x1, .f32⟩
  | .hbm, ⟨39, _⟩ => ⟨S_, .f32⟩
  | .hbm, ⟨40, _⟩ => ⟨S2x112x112x384x1, .f32⟩
  | .hbm, ⟨41, _⟩ => ⟨S2x112x112x384x1, .f32⟩
  | .hbm, ⟨42, _⟩ => ⟨S2x112x112x384, .f32⟩
  | .hbm, ⟨43, _⟩ => ⟨S2x384x112x112, .f32⟩
  | _, _ => ⟨S2x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call1_v0 : Ref sig .tc := ⟨.hbm, 10, rfl⟩
abbrev main_call1_cst : Ref sig .tc := ⟨.hbm, 11, rfl⟩
abbrev main_call1_c : Ref sig .tc := ⟨.hbm, 12, rfl⟩
abbrev main_call1_v1_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_cst : Ref sig .tc := ⟨.hbm, 39, rfl⟩
abbrev main_call2_v14 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]
-- ==== Proof.Net.lean ====
/-
  Networks that exchange two entries of an eight-tuple so that the greater comes first, over any linear order. Everything is
  read through thresholds: for a threshold `a`, an entry is seen as the truth of "`a` is at most the entry", the greater of
  two entries becomes "or" and the lesser "and", and a network over truth values is checked on all of them.
-/
module

public import Idealize.ShloMosaic.Lib.Pointwise

@[expose] public section

namespace Cert.Proof.Net

/-- One exchange: the greater of the entries `p.1` and `p.2` goes to `p.1`, the lesser to `p.2`. -/
def exchange {α : Type} (mx mn : α → α → α) (v : Fin 8 → α) (p : Fin 8 × Fin 8) : Fin 8 → α := fun k =>
  if k = p.1 then mx (v p.1) (v p.2) else if k = p.2 then mn (v p.1) (v p.2) else v k

/-- A list of exchanges, one after another. -/
def network {α : Type} (mx mn : α → α → α) (l : List (Fin 8 × Fin 8)) (v : Fin 8 → α) : Fin 8 → α :=
  l.foldl (exchange mx mn) v

/-- The exchanges that sort eight entries from the greatest down. -/
def sortPairs : List (Fin 8 × Fin 8) :=
  [(0, 1), (2, 3), (4, 5), (6, 7), (0, 2), (1, 3), (4, 6), (5, 7), (1, 2), (5, 6),
   (0, 4), (1, 5), (2, 6), (3, 7), (2, 4), (3, 5), (1, 2), (3, 4), (5, 6)]

/-- The exchanges that sort a tuple which first falls and then rises, or the other way round. -/
def bitonicPairs : List (Fin 8 × Fin 8) :=
  [(0, 4), (1, 5), (2, 6), (3, 7), (0, 2), (1, 3), (4, 6), (5, 7), (0, 1), (2, 3), (4, 5), (6, 7)]

/-- The eight entries sorted. -/
def sort8 {α : Type} (mx mn : α → α → α) (v : Fin 8 → α) : Fin 8 → α := network mx mn sortPairs v

/-- The eight greatest of two sorted tuples, sorted. -/
def merge8 {α : Type} (mx mn : α → α → α) (m n : Fin 8 → α) : Fin 8 → α :=
  network mx mn bitonicPairs fun k => mx (m k) (n k.rev)

/-- A map that carries the two operations over carries a network over. -/
theorem network_map {α β : Type} {mx mn : α → α → α} {mx' mn' : β → β → β} (f : α → β)
    (hx : ∀ a b, f (mx a b) = mx' (f a) (f b)) (hn : ∀ a b, f (mn a b) = mn' (f a) (f b)) (l : List (Fin 8 × Fin 8))
    (v : Fin 8 → α) (k : Fin 8) : f (network mx mn l v k) = network mx' mn' l (fun k => f (v k)) k := by
  induction l generalizing v with
  | nil => rfl
  | cons p l ih =>
    have h : (fun k => f (exchange mx mn v p k)) = exchange mx' mn' (fun k => f (v k)) p := by
      funext k
      unfold exchange
      split_ifs <;> simp [hx, hn]
    exact (ih (exchange mx mn v p)).trans (by rw [h]; rfl)

/-- How many of the eight truth values hold. -/
def count (b : Fin 8 → Bool) : ℕ := ∑ k, if b k then 1 else 0

/-- The tuple of eight truth values with the given ones. -/
def tuple (a b c d e f g h : Bool) : Fin 8 → Bool := ![a, b, c, d, e, f, g, h]

/-- Every tuple of eight truth values is the tuple of its entries. -/
theorem eq_tuple (v : Fin 8 → Bool) : v = tuple (v 0) (v 1) (v 2) (v 3) (v 4) (v 5) (v 6) (v 7) := by
  funext k; fin_cases k <;> rfl

/-- Of truth values, sorting puts as many ones in front as there are. -/
theorem sort8_bool (v : Fin 8 → Bool) (k : Fin 8) : sort8 or and v k = decide (k.val < count v) := by
  have h : ∀ a b c d e f g h : Bool, ∀ k : Fin 8,
      sort8 or and (tuple a b c d e f g h) k = decide (k.val < count (tuple a b c d e f g h)) := by decide +kernel
  rw [eq_tuple v]; exact h ..

/-- Of truth values in order, `p` ones and `q` ones, merging puts `p + q` ones in front. -/
theorem merge8_bool : ∀ p q : Fin 9, ∀ k : Fin 8,
    merge8 or and (fun k => decide (k.val < p.val)) (fun k => decide (k.val < q.val)) k = decide (k.val < p.val + q.val) := by
  decide +kernel

variable {α : Type} [LinearOrder α]

/-- Sorted: the entry at `k` reaches a threshold if and only if more than `k` of the eight do. -/
theorem le_sort8 (v : Fin 8 → α) (a : α) (k : Fin 8) :
    a ≤ sort8 max min v k ↔ k.val < ∑ i, if a ≤ v i then 1 else 0 := by
  have h := network_map (mx := max) (mn := min) (mx' := or) (mn' := and) (fun x : α => decide (a ≤ x))
    (fun x y => by simp [le_max_iff]) (fun x y => by simp [le_min_iff]) sortPairs v k
  have h2 := h.trans (sort8_bool _ k)
  simp only [count, decide_eq_true_eq] at h2
  simpa [sort8] using h2

/-- Merged: where the entries of `m` that reach a threshold are its first `p` and those of `n` its first `q`, those of the
    merged tuple are its first `p + q`. -/
theorem le_merge8 (m n : Fin 8 → α) (a : α) (p q : ℕ) (hm : ∀ k, a ≤ m k ↔ k.val < p) (hn : ∀ k, a ≤ n k ↔ k.val < q)
    (k : Fin 8) : a ≤ merge8 max min m n k ↔ k.val < p + q := by
  have h := network_map (mx := max) (mn := min) (mx' := or) (mn' := and) (fun x : α => decide (a ≤ x))
    (fun x y => by simp [le_max_iff]) (fun x y => by simp [le_min_iff]) bitonicPairs (fun k => max (m k) (n k.rev)) k
  have h2 := merge8_bool ⟨min p 8, by omega⟩ ⟨min q 8, by omega⟩ k
  have e : (fun k => decide (a ≤ max (m k) (n k.rev)))
      = fun k : Fin 8 => or (decide (k.val < min p 8)) (decide (k.rev.val < min q 8)) := by
    funext i
    have h1 := hm i
    have h3 := hn i.rev
    have hi := i.isLt
    have hr : (i.rev : ℕ) = 7 - (i : ℕ) := by simp [Fin.val_rev]
    rw [hr] at h3
    by_cases c1 : a ≤ m i <;> by_cases c2 : a ≤ n i.rev <;>
      simp only [le_max_iff, c1, c2, true_iff, false_iff, not_lt] at h1 h3 ⊢ <;> simp <;> omega
  rw [e] at h
  have h3 := h.trans h2
  simp only [decide_eq_decide] at h3
  refine h3.trans ?_
  have hk := k.isLt
  omega

end Cert.Proof.Net

end
-- ==== Proof.Sorting.lean ====
/-
  The kernel's eight-tuples at one pixel. The first block of eight channels is sorted; each trip of the loop sorts the next
  block and keeps the eight greatest of the two tuples.
-/
module

public import proofs.«01_k».proof.Proof.Gen.KernelIdeal.Loops
public import proofs.«01_k».proof.Proof.Net
public import Idealize.ShloMosaic.Lib.Pointwise

@[expose] public noncomputable section

set_option maxRecDepth 16384

namespace Cert.Proof.Sorting

open Idealize.ShloMosaic Cert.KernelIdeal Cert.KernelIdeal.Gen

/-- A block of eight channels. -/
abbrev Block := Vec Ideal S1x8x16x224 .f32

/-- One value for each pixel of the block. -/
abbrev Plane := FVec Ideal S16x224 .f32

/-- Eight of them, as the loop carries them. -/
abbrev Eight := Plane × Plane × Plane × Plane × Plane × Plane × Plane × Plane

/-- The eight values at one pixel. -/
def at_ (m : Eight) (j : S16x224.Idx) : Fin 8 → Ideal .f32 :=
  ![m.1 j, m.2.1 j, m.2.2.1 j, m.2.2.2.1 j, m.2.2.2.2.1 j, m.2.2.2.2.2.1 j, m.2.2.2.2.2.2.1 j, m.2.2.2.2.2.2.2 j]

/-- The eight channels of a block at one pixel, as a trip cuts them out. -/
def cut (b : Block) (j : S16x224.Idx) : Fin 8 → Ideal .f32 :=
  ![k0_pay3 b j, k0_pay4 b j, k0_pay5 b j, k0_pay6 b j, k0_pay7 b j, k0_pay8 b j, k0_pay9 b j, k0_pay10 b j]

/-- The same before the loop. -/
def cut₀ (b : Block) (j : S16x224.Idx) : Fin 8 → Ideal .f32 :=
  ![k0_pay47 b j, k0_pay48 b j, k0_pay49 b j, k0_pay50 b j, k0_pay51 b j, k0_pay52 b j, k0_pay53 b j, k0_pay54 b j]

/-- What a trip cuts out is the block's channel at that pixel. -/
theorem cut_apply (b : Block) (r : Fin 16) (x : Fin 224) (k : Fin 8) : cut b (ix2 r x) k = b (ix4 (0 : Fin 1) k r x) := by
  fin_cases k <;>
  · simp only [cut]
    pointwise [k0_pay2, k0_pay3, k0_pay4, k0_pay5, k0_pay6, k0_pay7, k0_pay8, k0_pay9, k0_pay10]

/-- The two ways of cutting a block are one. -/
theorem cut₀_eq (b : Block) (j : S16x224.Idx) : cut₀ b j = cut b j := rfl

/-- What the loop starts with. -/
def first (b : Block) : Eight :=
  (k0_pay75 b, k0_pay87 b, k0_pay88 b, k0_pay89 b, k0_pay90 b, k0_pay91 (k0_pay80 b) (k0_pay86 b),
    k0_pay92 (k0_pay80 b) (k0_pay86 b), k0_pay82 b)

/-- It is the first block, sorted at each pixel. -/
theorem first_at (b : Block) (j : S16x224.Idx) (k : Fin 8) : at_ (first b) j k = Net.sort8 max min (cut₀ b j) k := by
  fin_cases k <;> rfl

/-- The eight values of the next block, sorted, in the last of which a trip's merge begins. -/
def next (b : Block) : Eight :=
  (k0_pay31 b, k0_pay43 b, k0_pay44 b, k0_pay45 b, minimumf (k0_pay41 b) (k0_pay40 b),
    maximumf (k0_pay42 b) (k0_pay36 b), minimumf (k0_pay42 b) (k0_pay36 b), k0_pay38 b)

/-- At each pixel they are sorted. -/
theorem next_at (b : Block) (j : S16x224.Idx) (k : Fin 8) : at_ (next b) j k = Net.sort8 max min (cut b j) k := by
  fin_cases k <;> rfl

/-- What a trip makes of the eight it finds and the block it reads. -/
def step (b : Block) (m : Eight) : Eight :=
  let p := k0_pay103 m.2.1 m.2.2.2.2.2.1 (k0_pay36 b) (k0_pay42 b) (k0_pay44 b)
  let q := k0_pay107 m.2.2.2.1 m.2.2.2.2.2.2.2 (k0_pay31 b) (k0_pay40 b) (k0_pay41 b)
  let p' := k0_pay104 m.2.1 m.2.2.2.2.2.1 (k0_pay36 b) (k0_pay42 b) (k0_pay44 b)
  let q' := k0_pay108 m.2.2.2.1 m.2.2.2.2.2.2.2 (k0_pay31 b) (k0_pay40 b) (k0_pay41 b)
  let f (g : Plane → Plane → Plane → Plane → Plane → Plane → Plane → Plane → Plane → Plane → Plane) (u : Plane) : Plane :=
    g m.1 m.2.2.1 m.2.2.2.2.1 m.2.2.2.2.2.2.1 (k0_pay36 b) (k0_pay38 b) (k0_pay42 b) (k0_pay43 b) (k0_pay45 b) u
  (f k0_pay113 (maximumf p q), f k0_pay114 (maximumf p q), f k0_pay115 (minimumf p q), f k0_pay116 (minimumf p q),
    f k0_pay117 (maximumf p' q'), f k0_pay118 (maximumf p' q'), f k0_pay119 (minimumf p' q'), f k0_pay120 (minimumf p' q'))

/-- At each pixel it is the eight greatest of both, sorted. -/
theorem step_at (b : Block) (m : Eight) (j : S16x224.Idx) (k : Fin 8) :
    at_ (step b m) j k = Net.merge8 max min (at_ m j) (at_ (next b) j) k := by
  fin_cases k <;> rfl

end Cert.Proof.Sorting
-- ==== Proof.Top.lean ====
/-
  The loop over the blocks of channels. Before trip `k` the eight values at a pixel are the greatest of its first `8 (k + 1)`
  channels, in order, which is said by thresholds: the value at place `i` reaches a threshold if and only if more than `i` of
  the channels do.
-/
module

public import proofs.«01_k».proof.Proof.Sorting

@[expose] public noncomputable section

set_option maxRecDepth 16384

namespace Cert.Proof.Top

open Idealize.ShloMosaic Idealize.SL Idealize.SL.Sem Cert.KernelIdeal Cert.KernelIdeal.Gen Cert.Proof.Sorting

variable (𝒱 : Variants) (c : Dev nD) (bd : Option 𝒱.V) (i : grid0.Coords)
  (arg2 : Memref sig .tc .vmem S1x384x16x224 .f32) (harg2 : arg2.IsWhole)
  (arg3 : Memref sig .tc .vmem S1x384x16x224 .f32) (harg3 : arg3.IsWhole)
  (arg4 : Memref sig .tc .vmem S1x384x8x112 .f32) (harg4 : arg4.IsWhole)
  (v38 v43 v45 v49 v50 v51 v52 v53 : FVec Ideal S16x224 .f32) (X : BufTy.Contents (Elt Ideal) arg3.view.ty)

/-- A trip reads the block of channels after those already seen. -/
theorem off1_eq : ∀ k : Fin k0_t1_loop.trips, k0_off1 k = ![0, 8 * (k.val + 1), 0, 0] := by decide +kernel

/-- The loop makes 47 trips. -/
theorem trips_eq : k0_t1_loop.trips = 47 := by decide +kernel

/-- A block of eight channels lies within what the kernel reads. -/
theorem block_le (k : ℕ) (hk : k < 48) (a) : (![0, 8 * k, 0, 0] : Fin 4 → ℕ) a + S1x8x16x224.size a ≤ S1x384x16x224.size a := by
  fin_cases a <;> simp [S1x8x16x224, S1x384x16x224] <;> omega

/-- The `k`-th block of eight channels of what the kernel reads. -/
def block (f : Vec Ideal S1x384x16x224 .f32) (k : Fin 48) : Block :=
  View.ld f (Rect.unit (s := S1x384x16x224) ![0, 8 * k.val, 0, 0] S1x8x16x224.size (block_le k.val k.isLt))

/-- An entry of a block is an entry of what the kernel reads. -/
theorem block_apply (f : Vec Ideal S1x384x16x224 .f32) (k : Fin 48) (e : Fin 8) (r : Fin 16) (x : Fin 224) :
    block f k (ix4 (0 : Fin 1) e r x) = f (ix4 (0 : Fin 1) ⟨8 * k.val + e.val, by omega⟩ r x) := by
  pointwise [block]

/-- One trip, on what it finds. -/
theorem trip_eq (k : Fin k0_t1_loop.trips) (m : Eight) :
    (trip_k0_t1 (F := Ideal) 𝒱 c bd i arg2 harg2 arg3 harg3 arg4 harg4 v38 v43 v45 v49 v50 v51 v52 v53 X k).1 m
      = step (block (arg3.view.read (Elt Ideal) X) ⟨k.val + 1, by have := trips_eq; omega⟩) m := by
  have h : ∀ (o : Fin 4 → ℕ) (ho), o = ![0, 8 * (k.val + 1), 0, 0] →
      View.ld (arg3.view.read (Elt Ideal) X) (Rect.unit (s := S1x384x16x224) o S1x8x16x224.size ho)
        = block (arg3.view.read (Elt Ideal) X) ⟨k.val + 1, by have := trips_eq; omega⟩ := by
    rintro o ho rfl; rfl
  rw [← h (k0_off1 k) (by rw [off1_eq]; exact block_le _ (by have := trips_eq; omega)) (off1_eq k)]
  unfold trip_k0_t1
  dsimp only
  sl_unfold_words
  rfl

/-- Of the first `n` channels at a pixel, how many reach a threshold. -/
def reach (f : Vec Ideal S1x384x16x224 .f32) (r : Fin 16) (x : Fin 224) (a : Ideal .f32) (n : ℕ) (hn : n ≤ 384) : ℕ :=
  ∑ e : Fin n, if a ≤ f (ix4 (0 : Fin 1) ⟨e.val, by omega⟩ r x) then 1 else 0

/-- Of the channels up to the end of a block, those before it and those in it are counted. -/
theorem reach_add (f : Vec Ideal S1x384x16x224 .f32) (r : Fin 16) (x : Fin 224) (a : Ideal .f32) (k : Fin 48) :
    reach f r x a (8 * k.val) (by omega) + (∑ e : Fin 8, if a ≤ cut (block f k) (ix2 r x) e then 1 else 0)
      = reach f r x a (8 * (k.val + 1)) (by omega) := by
  unfold reach
  simp only [cut_apply, block_apply]
  exact (Fin.sum_univ_add (a := 8 * k.val) (b := 8)
    fun e => if a ≤ f (ix4 (0 : Fin 1) ⟨e.val, by omega⟩ r x) then 1 else 0).symm

/-- Before trip `n`, the value at place `i` reaches a threshold if and only if more than `i` of the first `8 (n + 1)`
    channels do. -/
theorem before (r : Fin 16) (x : Fin 224) (a : Ideal .f32) (n : ℕ) (hn : n ≤ 47) (p : Fin 8) :
    a ≤ at_ (st_k0_t1 (F := Ideal) 𝒱 c bd i arg2 harg2 arg3 harg3 arg4 harg4 v38 v43 v45 v49 v50 v51 v52 v53 X
        (first (block (arg3.view.read (Elt Ideal) X) 0)) n) (ix2 r x) p
      ↔ p.val < reach (arg3.view.read (Elt Ideal) X) r x a (8 * (n + 1)) (by omega) := by
  induction n generalizing p with
  | zero =>
    show a ≤ at_ (first _) _ p ↔ _
    have h : reach (arg3.view.read (Elt Ideal) X) r x a (8 * (0 + 1)) (by omega)
        = ∑ e : Fin 8, if a ≤ cut (block (arg3.view.read (Elt Ideal) X) 0) (ix2 r x) e then 1 else 0 :=
      (reach_add _ r x a 0).symm.trans (Nat.zero_add _)
    rw [first_at, cut₀_eq, Net.le_sort8, h]
  | succ n ih =>
    have hs := st_k0_t1_succ (F := Ideal) 𝒱 c bd i arg2 harg2 arg3 harg3 arg4 harg4 v38 v43 v45 v49 v50 v51 v52 v53 X
      (first (block (arg3.view.read (Elt Ideal) X) 0)) ⟨n, by have := trips_eq; omega⟩
    rw [hs, tripR_k0_t1, trip_eq, step_at, Net.le_merge8 _ _ _ _ _ (ih (by omega))
      (fun k => by rw [next_at]; exact Net.le_sort8 _ _ _), ← reach_add _ _ _ _ ⟨n + 1, by omega⟩]

/-- After the loop, the last of the eight values reaches a threshold if and only if eight or more of all channels do. -/
theorem after (r : Fin 16) (x : Fin 224) (a : Ideal .f32) :
    a ≤ (st_k0_t1 (F := Ideal) 𝒱 c bd i arg2 harg2 arg3 harg3 arg4 harg4 v38 v43 v45 v49 v50 v51 v52 v53 X
        (first (block (arg3.view.read (Elt Ideal) X) 0)) k0_t1_loop.trips).2.2.2.2.2.2.2 (ix2 r x)
      ↔ 7 < ∑ e : Fin 384, if a ≤ arg3.view.read (Elt Ideal) X (ix4 (0 : Fin 1) e r x) then 1 else 0 := by
  have h := before 𝒱 c bd i arg2 harg2 arg3 harg3 arg4 harg4 v38 v43 v45 v49 v50 v51 v52 v53 X r x a 47 (by omega) 7
  rw [trips_eq]
  exact h

end Cert.Proof.Top
-- ==== Proof.Winner.lean ====
/-
  The result, as a function of the two arguments: of each 2x2 block of pixels the winner is the first, row by row, whose
  eighth greatest channel is greatest; the result holds the winner's entry in every channel.
-/
module

public import Idealize.ShloMosaic.Lib.Pointwise

@[expose] public noncomputable section

namespace Cert.Proof.Winner

open Idealize.ShloMosaic

/-- The eighth greatest of 384 numbers: the greatest threshold that eight or more of them reach. -/
def eighth (v : Fin 384 → EReal) : EReal := sSup {a | 7 < ∑ e, if a ≤ v e then 1 else 0}

/-- A number whose thresholds are those that eight or more of the entries reach is the eighth greatest. -/
theorem eq_eighth (v : Fin 384 → EReal) (y : EReal) (h : ∀ a, a ≤ y ↔ 7 < ∑ e, if a ≤ v e then 1 else 0) : y = eighth v :=
  (IsGreatest.csSup_eq (s := {a | 7 < ∑ e, if a ≤ v e then 1 else 0})
    ⟨(h y).mp le_rfl, fun a ha => (h a).mpr (by rw [Set.mem_setOf_eq] at ha; exact ha)⟩).symm

/-- The winner's row among two rows of two numbers. -/
def row (p : Fin 2 → Fin 2 → EReal) : Fin 2 := if max (p 1 0) (p 1 1) ≤ max (p 0 0) (p 0 1) then 0 else 1

/-- The winner's column. -/
def column (p : Fin 2 → Fin 2 → EReal) : Fin 2 := if p (row p) 1 ≤ p (row p) 0 then 0 else 1

/-- The arguments' shape. -/
abbrev Full : Shape := ⟨4, ![2, 384, 224, 224]⟩

/-- The result's. -/
abbrev Half : Shape := ⟨4, ![2, 384, 112, 112]⟩

/-- The four numbers compared at one place of the result. -/
def four (x : Full.Idx → EReal) (b : Fin 2) (r j : Fin 112) (u v : Fin 2) : EReal :=
  eighth fun e => x (ix4 b e (⟨2 * r.val + u.val, by omega⟩ : Fin 224) (⟨2 * j.val + v.val, by omega⟩ : Fin 224))

/-- One entry of the result. -/
def entry (e x : Full.Idx → EReal) (b : Fin 2) (c : Fin 384) (r j : Fin 112) : EReal :=
  e (ix4 b c (⟨2 * r.val + (row (four x b r j)).val, by omega⟩ : Fin 224)
    (⟨2 * j.val + (column (four x b r j)).val, by omega⟩ : Fin 224))

/-- The result. -/
def result (e x : Full.Idx → EReal) : Half.Idx → EReal := fun y =>
  entry e x (y 0 : Fin 2) (y 1 : Fin 384) (y 2 : Fin 112) (y 3 : Fin 112)

end Cert.Proof.Winner
-- ==== Proof.Flags.lean ====
/-
  The two comparisons of a 2x2 block of pixels. A block's left upper pixel says for it whether the upper row wins, and
  whether the left pixel of the winning row does.
-/
module

public import proofs.«01_k».proof.Proof.Sorting
public import proofs.«01_k».proof.Proof.Winner

@[expose] public noncomputable section

set_option maxRecDepth 16384

namespace Cert.Proof.Flags

open Idealize.ShloMosaic Cert.KernelIdeal Cert.KernelIdeal.Gen Cert.Proof.Sorting

/-- A pixel of the 2x2 block at block row `r` and block column `j`. -/
def pixel (lp : Plane) (r : Fin 8) (j : Fin 112) (a b : Fin 2) : Ideal .f32 :=
  lp (ix2 (⟨2 * r.val + a.val, by omega⟩ : Fin 16) (⟨2 * j.val + b.val, by omega⟩ : Fin 224))

/-- The upper row of the block holds the greatest of its pixels. -/
abbrev upper (lp : Plane) (r : Fin 8) (j : Fin 112) : Prop :=
  max (pixel lp r j 1 0) (pixel lp r j 1 1) ≤ max (pixel lp r j 0 0) (pixel lp r j 0 1)

/-- In row `a` of the block the left pixel is at least the right one. -/
abbrev leftIn (lp : Plane) (r : Fin 8) (j : Fin 112) (a : Fin 2) : Prop := pixel lp r j a 1 ≤ pixel lp r j a 0

/-- The winner's row within its block. -/
def dy (lp : Plane) (r : Fin 8) (j : Fin 112) : Fin 2 := Winner.row (pixel lp r j)

/-- The winner's column within its block. -/
def dx (lp : Plane) (r : Fin 8) (j : Fin 112) : Fin 2 := Winner.column (pixel lp r j)

section
variable (lp : Plane) (r : Fin 8) (j : Fin 112)

/-- The left upper pixel of a block, found by its coordinates. -/
theorem pixel00 (h h') : lp (ix2 (⟨2 * r.val, h⟩ : Fin 16) (⟨2 * j.val, h'⟩ : Fin 224)) = pixel lp r j 0 0 := rfl

/-- The right upper pixel. -/
theorem pixel01 (h h') : lp (ix2 (⟨2 * r.val, h⟩ : Fin 16) (⟨1 + 2 * j.val, h'⟩ : Fin 224)) = pixel lp r j 0 1 := by
  simp only [Nat.add_comm 1]; rfl

/-- The left lower pixel. -/
theorem pixel10 (h h') : lp (ix2 (⟨1 + 2 * r.val, h⟩ : Fin 16) (⟨2 * j.val, h'⟩ : Fin 224)) = pixel lp r j 1 0 := by
  simp only [Nat.add_comm 1]; rfl

/-- The right lower pixel. -/
theorem pixel11 (h h') : lp (ix2 (⟨1 + 2 * r.val, h⟩ : Fin 16) (⟨1 + 2 * j.val, h'⟩ : Fin 224)) = pixel lp r j 1 1 := by
  simp only [Nat.add_comm 1]; rfl

end

/-- The row flag at a block's left upper pixel is one if the winner is in the upper row, and zero otherwise. -/
theorem rowFlag (lp : Plane) (r : Fin 8) (j : Fin 112) (h h') :
    k0_pay122 lp (ix2 (⟨2 * r.val, h⟩ : Fin 16) (⟨2 * j.val, h'⟩ : Fin 224)) = if dy lp r j = 0 then (1 : EReal) else 0 := by
  pointwise [k0_pay122, k0_pay121]
  simp only [dif_pos (show 2 * r.val < 15 by omega), dif_pos (show 2 * j.val < 223 by omega), pixel00, pixel01, pixel10,
    pixel11]
  by_cases hu : upper lp r j
  · rw [if_pos hu, dy, Winner.row, if_pos hu, if_pos rfl]
  · rw [if_neg hu, dy, Winner.row, if_neg hu, if_neg (by decide)]

/-- The column flag there is one if the winner is in the left column, and zero otherwise. -/
theorem columnFlag (lp : Plane) (r : Fin 8) (j : Fin 112) (h h') :
    k0_pay123 lp (ix2 (⟨2 * r.val, h⟩ : Fin 16) (⟨2 * j.val, h'⟩ : Fin 224)) = if dx lp r j = 0 then (1 : EReal) else 0 := by
  pointwise [k0_pay123, k0_pay121]
  simp only [rowFlag]
  simp only [dif_pos (show 2 * r.val < 15 by omega), dif_pos (show 2 * j.val < 223 by omega), pixel00, pixel01, pixel10,
    pixel11]
  have hx : ∀ a, dy lp r j = a → dx lp r j = if leftIn lp r j a then 0 else 1 := by rintro a rfl; rfl
  by_cases hd : dy lp r j = 0
  · rw [hx _ hd, if_pos hd, if_pos one_ne_zero]
    by_cases hl : leftIn lp r j 0
    · rw [if_pos hl, if_pos hl, if_pos rfl]
    · rw [if_neg hl, if_neg hl, if_neg (by decide)]
  · rw [hx 1 (by omega), if_neg hd, if_neg (fun h => h rfl)]
    by_cases hl : leftIn lp r j 1
    · rw [if_pos hl, if_pos hl, if_pos rfl]
    · rw [if_neg hl, if_neg hl, if_neg (by decide)]

end Cert.Proof.Flags
-- ==== Proof.Select.lean ====
/-
  The indices by which the kernel takes the winners, and what it takes by them.
-/
module

public import proofs.«01_k».proof.Proof.Flags

@[expose] public noncomputable section

set_option maxRecDepth 16384

namespace Cert.Proof.Select

open Idealize.ShloMosaic Cert.KernelIdeal Cert.KernelIdeal.Gen Cert.Proof.Sorting Cert.Proof.Flags

/-! ## Small integers -/

/-- An index within its axis is not wrapped. -/
theorem wrap (n m : ℕ) (y : BitVec 32) (h : n < m) (hm : m ≤ 128) :
    (Scalar.select (IntOp.cmpi CmpIPredicate.slt (BitVec.ofNat 32 n) 0#32) y (BitVec.ofNat 32 n)).toNat % m = n := by
  have hs : ∀ n : Fin 128, IntOp.cmpi CmpIPredicate.slt (BitVec.ofNat 32 n.val) 0#32 = 0#1 := by decide +kernel
  rw [hs ⟨n, by omega⟩]
  show (BitVec.ofNat 32 n).toNat % m = n
  rw [BitVec.toNat_ofNat, Nat.mod_eq_of_lt (by omega : n < 2 ^ 32), Nat.mod_eq_of_lt h]

/-- Twice a number, as a word. -/
theorem twice (n : ℕ) : IntOp.muli (BitVec.ofNat 32 n) 2#32 = BitVec.ofNat 32 (2 * n) := by
  rw [Nat.mul_comm, BitVec.ofNat_mul]; rfl

/-- The lowest bit of a column tells whether the column is even. -/
theorem even (x : Fin 224) :
    IntOp.cmpi CmpIPredicate.eq (IntOp.andi (BitVec.ofNat 32 x.val) 1#32) 0#32 = if x.val % 2 = 0 then 1#1 else 0#1 := by
  revert x; decide +kernel

/-- A flag that is one for zero and zero for one, turned back into the number and added. -/
theorem addFlag (n : ℕ) (d : Fin 2) :
    IntOp.addi (BitVec.ofNat 32 n) (if (if d = 0 then (1 : EReal) else 0) ≠ 0 then 0#32 else 1#32)
      = BitVec.ofNat 32 (n + d.val) := by
  rw [BitVec.ofNat_add]
  congr 1
  fin_cases d <;> simp

/-- The rows that the kernel takes flags from are the even ones. -/
theorem double (q : Fin 4) (x : Fin 224) : k0_pay124 (ix2 q x) = BitVec.ofNat 32 (2 * q.val) := by
  pointwise [k0_pay124]
  exact twice _

/-! ## Indices of rows -/

section
variable (lp : Plane)

/-- The row flag of a block, with the row written in any way. -/
theorem rowFlag' (r : Fin 8) (j : Fin 112) (a : ℕ) (h h') (ha : a = 2 * r.val) :
    k0_pay122 lp (ix2 (⟨a, h⟩ : Fin 16) (⟨2 * j.val, h'⟩ : Fin 224)) = if dy lp r j = 0 then (1 : EReal) else 0 := by
  subst ha; exact rowFlag lp r j h h'

/-- The column flag of a block, with the row written in any way. -/
theorem columnFlag' (r : Fin 8) (j : Fin 112) (a : ℕ) (h h') (ha : a = 2 * r.val) :
    k0_pay123 lp (ix2 (⟨a, h⟩ : Fin 16) (⟨2 * j.val, h'⟩ : Fin 224)) = if dx lp r j = 0 then (1 : EReal) else 0 := by
  subst ha; exact columnFlag lp r j h h'

/-- The row flags of the upper four block rows. -/
theorem flagA (q : Fin 4) (j : Fin 112) (h) :
    k0_pay125 lp (ix2 q (⟨2 * j.val, h⟩ : Fin 224)) = if dy lp ⟨q.val, by omega⟩ j = 0 then (1 : EReal) else 0 := by
  pointwise [k0_pay125]
  simp (disch := omega) only [double, wrap]
  exact rowFlag' lp ⟨q.val, by omega⟩ j _ _ _ rfl

/-- Each odd lane gets what the even lane before it holds. -/
theorem dup (v : IVec S4x224 32) (q : Fin 4) (x : Fin 224) :
    k0_pay132 k0_pay129 v (ix2 q x) = v (ix2 q (⟨2 * (x.val / 2), by omega⟩ : Fin 224)) := by
  pointwise [k0_pay132, k0_pay129]
  rw [even]
  by_cases hx : x.val % 2 = 0
  · rw [if_pos hx]
    exact congrArg (fun a => v (ix2 q a)) (Fin.ext (show x.val = 2 * (x.val / 2) by omega))
  · rw [if_neg hx, dif_neg (by omega)]
    exact congrArg (fun a => v (ix2 q a)) (Fin.ext (show x.val - 1 = 2 * (x.val / 2) by omega))

/-- The upper half's row index at a lane. -/
theorem idxA (q : Fin 4) (x : Fin 224) :
    k0_pay130 k0_pay124 (k0_pay125 lp) (ix2 q x)
      = BitVec.ofNat 32 (2 * q.val + (dy lp ⟨q.val, by omega⟩ ⟨x.val / 2, by omega⟩).val) := by
  refine (dup (addi k0_pay124 (select (cmpf .one (k0_pay125 lp) (broadcast S4x224 (FloatOps.ofBits .f32 0x00000000#32)))
    (broadcast S4x224 0#32) (broadcast S4x224 1#32))) q x).trans ?_
  pointwise
  rw [double, flagA lp q ⟨x.val / 2, by omega⟩]
  exact addFlag _ _

/-- The lower half's, among the lower eight rows. -/
theorem idxB (q : Fin 4) (x : Fin 224) :
    k0_pay132 k0_pay129 (k0_pay131 k0_pay124 (k0_pay126 lp) k0_pay127) (ix2 q x)
      = BitVec.ofNat 32 (2 * q.val + (dy lp ⟨4 + q.val, by omega⟩ ⟨x.val / 2, by omega⟩).val) := by
  refine (dup _ q x).trans ?_
  pointwise [k0_pay131, k0_pay126, k0_pay127]
  simp (disch := omega) only [double, wrap]
  rw [rowFlag' lp ⟨4 + q.val, by omega⟩ ⟨x.val / 2, by omega⟩ _ _ _ (by show _ = 2 * (4 + q.val); omega)]
  exact addFlag _ _

/-- The rows taken for every lane: row `2 r` or `2 r + 1` of the block, as the lane's pair of columns says. -/
theorem rows (e : Vec Ideal S1x16x16x224 .f32) (c : Fin 16) (r : Fin 8) (x : Fin 224) :
    k0_pay139 (k0_pay130 k0_pay124 (k0_pay125 lp)) (k0_pay132 k0_pay129 (k0_pay131 k0_pay124 (k0_pay126 lp) k0_pay127)) e (ix3 c r x)
      = e (ix4 (0 : Fin 1) c (⟨2 * r.val + (dy lp r ⟨x.val / 2, by omega⟩).val, by omega⟩ : Fin 16) x) := by
  pointwise [k0_pay139, k0_pay135, k0_pay136]
  simp (disch := omega) only [idxA, idxB]
  by_cases hr : r.val < 4
  · rw [dif_pos hr]
    simp (disch := omega) only [dif_pos hr, wrap]
  · rw [dif_neg hr]
    simp (disch := omega) only [dif_pos (show r.val - 4 < 4 by omega), wrap]
    have h : (⟨4 + (r.val - 4), by omega⟩ : Fin 8) = r := Fin.ext (by show 4 + (r.val - 4) = _; omega)
    exact congrArg (fun a => e (ix4 (0 : Fin 1) c a x)) (Fin.ext (by show 8 + (2 * (r.val - 4) + _) = 2 * r.val + _; rw [h]; omega))

/-! ## Indices of lanes -/

/-- The column flags of all eight block rows. -/
theorem flagH (r : Fin 8) (j : Fin 112) (h) :
    k0_pay128 (k0_pay123 lp) k0_pay124 (ix2 r (⟨2 * j.val, h⟩ : Fin 224)) = if dx lp r j = 0 then (1 : EReal) else 0 := by
  pointwise [k0_pay128]
  by_cases hr : r.val < 4
  · rw [dif_pos hr]
    simp (disch := omega) only [dif_pos hr, double, wrap]
    exact columnFlag' lp r j _ _ _ rfl
  · rw [dif_neg hr]
    simp (disch := omega) only [dif_pos (show r.val - 4 < 4 by omega), double, wrap]
    exact columnFlag' lp r j _ _ _ (by omega)

/-- The lane index of the first 64 columns of the result. -/
theorem laneL (r : Fin 8) (j : Fin 64) :
    k0_pay133 (k0_pay128 (k0_pay123 lp) k0_pay124) (ix2 r j)
      = BitVec.ofNat 32 (2 * j.val + (dx lp r ⟨j.val, by omega⟩).val) := by
  pointwise [k0_pay133]
  simp (disch := omega) only [twice, wrap]
  rw [flagH lp r ⟨j.val, by omega⟩]
  exact addFlag _ _

/-- The lane index of the other 48, among the lanes from 128 on. -/
theorem laneR (r : Fin 8) (j : Fin 48) :
    k0_pay134 (k0_pay128 (k0_pay123 lp) k0_pay124) (ix2 r j)
      = BitVec.ofNat 32 (2 * j.val + (dx lp r ⟨64 + j.val, by omega⟩).val) := by
  pointwise [k0_pay134]
  simp (disch := omega) only [twice, wrap]
  rw [dif_pos (by omega), ← addFlag]
  have h : (⟨128 + 2 * j.val, by omega⟩ : Fin 224) = ⟨2 * (64 + j.val), by omega⟩ := Fin.ext (show 128 + 2 * j.val = 2 * (64 + j.val) by omega)
  rw [h, flagH lp r ⟨64 + j.val, by omega⟩]

/-! ## What is stored for sixteen channels -/

/-- The first 64 columns of the result. -/
def left (e : Vec Ideal S1x16x16x224 .f32) : FVec Ideal S1x16x8x64 .f32 :=
  k0_pay141 (k0_pay140 (k0_pay130 k0_pay124 (k0_pay125 lp))
    (k0_pay132 k0_pay129 (k0_pay131 k0_pay124 (k0_pay126 lp) k0_pay127))
    (k0_pay133 (k0_pay128 (k0_pay123 lp) k0_pay124)) e)

/-- The other 48. -/
def right (e : Vec Ideal S1x16x16x224 .f32) : FVec Ideal S1x16x8x48 .f32 :=
  k0_pay142 (k0_pay138 (k0_pay134 (k0_pay128 (k0_pay123 lp) k0_pay124)))
    (k0_pay139 (k0_pay130 k0_pay124 (k0_pay125 lp))
      (k0_pay132 k0_pay129 (k0_pay131 k0_pay124 (k0_pay126 lp) k0_pay127)) e)

/-- An entry of the first 64 columns is its block's winner. -/
theorem left_apply (e : Vec Ideal S1x16x16x224 .f32) (c : Fin 16) (r : Fin 8) (j : Fin 64) :
    left lp e (ix4 (0 : Fin 1) c r j)
      = e (ix4 (0 : Fin 1) c (⟨2 * r.val + (dy lp r ⟨j.val, by omega⟩).val, by omega⟩ : Fin 16)
          (⟨2 * j.val + (dx lp r ⟨j.val, by omega⟩).val, by omega⟩ : Fin 224)) := by
  pointwise [left, k0_pay141, k0_pay140, k0_pay137]
  simp (disch := omega) only [laneL, wrap, rows]
  have h : (⟨(2 * j.val + (dx lp r ⟨j.val, by omega⟩).val) / 2, by omega⟩ : Fin 112) = ⟨j.val, by omega⟩ :=
    Fin.ext (show (2 * j.val + (dx lp r ⟨j.val, by omega⟩).val) / 2 = j.val by omega)
  exact congrArg (fun a => e (ix4 (0 : Fin 1) c a _)) (Fin.ext (congrArg (fun z => 2 * r.val + (dy lp r z).val) h))

/-- An entry of the other 48 columns is its block's winner. -/
theorem right_apply (e : Vec Ideal S1x16x16x224 .f32) (c : Fin 16) (r : Fin 8) (j : Fin 48) :
    right lp e (ix4 (0 : Fin 1) c r j)
      = e (ix4 (0 : Fin 1) c (⟨2 * r.val + (dy lp r ⟨64 + j.val, by omega⟩).val, by omega⟩ : Fin 16)
          (⟨2 * (64 + j.val) + (dx lp r ⟨64 + j.val, by omega⟩).val, by omega⟩ : Fin 224)) := by
  pointwise [right, k0_pay142, k0_pay138]
  simp (disch := omega) only [laneR, wrap, rows]
  rw [dif_pos (by omega)]
  have h : (⟨(128 + (2 * j.val + (dx lp r ⟨64 + j.val, by omega⟩).val)) / 2, by omega⟩ : Fin 112) = ⟨64 + j.val, by omega⟩ :=
    Fin.ext (show (128 + (2 * j.val + (dx lp r ⟨64 + j.val, by omega⟩).val)) / 2 = 64 + j.val by omega)
  exact congrArg₂ (fun a b => e (ix4 (0 : Fin 1) c a b))
    (Fin.ext (congrArg (fun z => 2 * r.val + (dy lp r z).val) h))
    (Fin.ext (show 128 + (2 * j.val + (dx lp r ⟨64 + j.val, by omega⟩).val) = 2 * (64 + j.val) + _ by omega))

end

end Cert.Proof.Select
-- ==== Proof.Pieces.lean ====
/-
  What the kernel leaves in one block of the result. It stores the block in 48 pieces, two for each sixteen channels.
-/
module

public import proofs.«01_k».proof.Proof.Gen.KernelIdeal.Value
public import proofs.«01_k».proof.Proof.Top
public import proofs.«01_k».proof.Proof.Select
public import Idealize.ShloMosaic.Lib.Pipeline.ValueKit

@[expose] public noncomputable section

set_option maxRecDepth 16384

namespace Cert.Proof.Pieces

open Idealize.ShloMosaic Idealize.SL Idealize.SL.Sem Cert.KernelIdeal Cert.KernelIdeal.Gen Cert.Proof.Sorting Cert.Proof.Flags

/-- Sixteen channels lie within the block that the kernel reads. -/
theorem chunk_le (n : ℕ) (hn : n < 24) (a) : (![0, 16 * n, 0, 0] : Fin 4 → ℕ) a + S1x16x16x224.size a ≤ S1x384x16x224.size a := by
  fin_cases a <;> simp [S1x16x16x224, S1x384x16x224] <;> omega

/-- The left piece of sixteen channels lies within the block of the result. -/
theorem left_le (n : ℕ) (hn : n < 24) (a) : (![0, 16 * n, 0, 0] : Fin 4 → ℕ) a + S1x16x8x64.size a ≤ S1x384x8x112.size a := by
  fin_cases a <;> simp [S1x16x8x64, S1x384x8x112] <;> omega

/-- So does the right piece. -/
theorem right_le (n : ℕ) (hn : n < 24) (a) : (![0, 16 * n, 0, 64] : Fin 4 → ℕ) a + S1x16x8x48.size a ≤ S1x384x8x112.size a := by
  fin_cases a <;> simp [S1x16x8x48, S1x384x8x112] <;> omega

/-- Sixteen channels of what the kernel reads. -/
def chunk (f : Vec Ideal S1x384x16x224 .f32) (n : ℕ) (hn : n < 24) : Vec Ideal S1x16x16x224 .f32 :=
  View.ld f (Rect.unit (s := S1x384x16x224) ![0, 16 * n, 0, 0] S1x16x16x224.size (chunk_le n hn))

/-- The piece with the first 64 columns of sixteen channels. -/
def leftPiece (lp : Plane) (f : Vec Ideal S1x384x16x224 .f32) (n : ℕ) (hn : n < 24) :
    View.Piece (Elt Ideal) S1x384x8x112 .f32 :=
  ⟨Rect.unit (s := S1x384x8x112) ![0, 16 * n, 0, 0] S1x16x8x64.size (left_le n hn), Select.left lp (chunk f n hn)⟩

/-- The piece with the other 48. -/
def rightPiece (lp : Plane) (f : Vec Ideal S1x384x16x224 .f32) (n : ℕ) (hn : n < 24) :
    View.Piece (Elt Ideal) S1x384x8x112 .f32 :=
  ⟨Rect.unit (s := S1x384x8x112) ![0, 16 * n, 0, 64] S1x16x8x48.size (right_le n hn), Select.right lp (chunk f n hn)⟩

/-- The pieces of the first `16 n` channels, the last first. -/
def pieces (lp : Plane) (f : Vec Ideal S1x384x16x224 .f32) : (n : ℕ) → n ≤ 24 → List (View.Piece (Elt Ideal) S1x384x8x112 .f32)
  | 0, _ => []
  | n + 1, hn => rightPiece lp f n hn :: leftPiece lp f n hn :: pieces lp f n (Nat.le_of_succ_le hn)

variable (c : Dev nD) (i : grid0.Coords)
  (arg2 : Memref sig .tc .vmem S1x384x16x224 .f32) (harg2 : arg2.IsWhole)
  (arg3 : Memref sig .tc .vmem S1x384x16x224 .f32) (harg3 : arg3.IsWhole)
  (arg4 : Memref sig .tc .vmem S1x384x8x112 .f32) (harg4 : arg4.IsWhole)
  (x0 x1 : Vec Ideal S1x384x16x224 .f32)

/-- What the loop leaves: at each pixel the eighth greatest of its channels. -/
def lowest : Plane :=
  (st_k0_t1 (F := Ideal) Variants.none c none i arg2 harg2 arg3 harg3 arg4 harg4
    (kernelRun0_A.sl.r c arg3 harg3 x1) (kernelRun0_A.sl.r_1 c arg3 harg3 x1) (kernelRun0_A.sl.r_2 c arg3 harg3 x1)
    (kernelRun0_A.sl.r_3 c arg3 harg3 x1) (kernelRun0_A.sl.r_4 c arg3 harg3 x1) (kernelRun0_A.sl.r_5 c arg3 harg3 x1)
    (kernelRun0_A.sl.r_6 c arg3 harg3 x1) (kernelRun0_A.sl.r_7 c arg3 harg3 x1) (harg3.unread x1)
    (first (Top.block (arg3.view.read (Elt Ideal) (harg3.unread x1)) 0)) k0_t1_loop.trips).2.2.2.2.2.2.2

set_option maxHeartbeats 4000000 in
/-- The stores of a grid point are the 48 pieces. -/
theorem run_eq : (kernelRun0_A (F := Ideal) c i arg2 harg2 arg3 harg3 arg4 harg4 x0 x1).1
    = pieces (lowest c i arg2 harg2 arg3 harg3 arg4 harg4 x1) (arg2.view.read (Elt Ideal) (harg2.unread x0)) 24 le_rfl := by
  unfold kernelRun0_A
  dsimp only
  simp only [pieces]
  iterate 48 refine congrArg₂ List.cons rfl ?_
  rfl

/-- An entry of sixteen channels is an entry of what the kernel reads. -/
theorem chunk_apply (f : Vec Ideal S1x384x16x224 .f32) (n : ℕ) (hn : n < 24) (e : Fin 16) (r : Fin 16) (x : Fin 224) :
    chunk f n hn (ix4 (0 : Fin 1) e r x) = f (ix4 (0 : Fin 1) ⟨16 * n + e.val, by omega⟩ r x) := by
  pointwise [chunk]

/-- A block of the result: of each 2x2 block of pixels the winner's entry, in every channel. -/
def won (lp : Plane) (f : Vec Ideal S1x384x16x224 .f32) : Vec Ideal S1x384x8x112 .f32 := fun y =>
  let r : Fin 8 := y 2
  let j : Fin 112 := y 3
  f (ix4 (0 : Fin 1) (y 1) (⟨2 * r.val + (dy lp r j).val, by omega⟩ : Fin 16) (⟨2 * j.val + (dx lp r j).val, by omega⟩ : Fin 224))

/-- An entry of that block. -/
theorem won_apply (lp : Plane) (f : Vec Ideal S1x384x16x224 .f32) (e : Fin 384) (r : Fin 8) (j : Fin 112) :
    won lp f (ix4 (0 : Fin 1) e r j)
      = f (ix4 (0 : Fin 1) e (⟨2 * r.val + (dy lp r j).val, by omega⟩ : Fin 16) (⟨2 * j.val + (dx lp r j).val, by omega⟩ : Fin 224)) :=
  rfl

/-- Where an entry of the left piece lies. -/
theorem left_emb (n : ℕ) (hn : n < 24) (e : Fin 16) (r : Fin 8) (j : Fin 64) :
    (Rect.unit (s := S1x384x8x112) ![0, 16 * n, 0, 0] S1x16x8x64.size (left_le n hn)).emb (ix4 (0 : Fin 1) e r j)
      = ix4 (0 : Fin 1) (⟨16 * n + e.val, by omega⟩ : Fin 384) r (⟨j.val, by omega⟩ : Fin 112) := by
  funext a
  apply Fin.ext
  rw [ValueKit.rect_emb_unit_val]
  fin_cases a
  · rfl
  · rfl
  · exact Nat.zero_add _
  · exact Nat.zero_add _

/-- The left piece holds the entries of the block at its place. -/
theorem left_won (lp : Plane) (f : Vec Ideal S1x384x16x224 .f32) (n : ℕ) (hn : n < 24) (x : S1x16x8x64.Idx) :
    Select.left lp (chunk f n hn) x = won lp f
      ((Rect.unit (s := S1x384x8x112) ![0, 16 * n, 0, 0] S1x16x8x64.size (left_le n hn)).emb x) := by
  obtain ⟨z, e, r, j, rfl⟩ : ∃ (z : Fin 1) (e : Fin 16) (r : Fin 8) (j : Fin 64), x = ix4 z e r j := by
    idx_vars x; exact ⟨_, _, _, _, rfl⟩
  obtain rfl : z = 0 := Subsingleton.elim _ _
  rw [left_emb n hn, Select.left_apply, chunk_apply, won_apply]

/-- Where an entry of the right piece lies. -/
theorem right_emb (n : ℕ) (hn : n < 24) (e : Fin 16) (r : Fin 8) (j : Fin 48) :
    (Rect.unit (s := S1x384x8x112) ![0, 16 * n, 0, 64] S1x16x8x48.size (right_le n hn)).emb (ix4 (0 : Fin 1) e r j)
      = ix4 (0 : Fin 1) (⟨16 * n + e.val, by omega⟩ : Fin 384) r (⟨64 + j.val, by omega⟩ : Fin 112) := by
  funext a
  apply Fin.ext
  rw [ValueKit.rect_emb_unit_val]
  fin_cases a
  · rfl
  · rfl
  · exact Nat.zero_add _
  · exact rfl

/-- So does the right piece. -/
theorem right_won (lp : Plane) (f : Vec Ideal S1x384x16x224 .f32) (n : ℕ) (hn : n < 24) (x : S1x16x8x48.Idx) :
    Select.right lp (chunk f n hn) x = won lp f
      ((Rect.unit (s := S1x384x8x112) ![0, 16 * n, 0, 64] S1x16x8x48.size (right_le n hn)).emb x) := by
  obtain ⟨z, e, r, j, rfl⟩ : ∃ (z : Fin 1) (e : Fin 16) (r : Fin 8) (j : Fin 48), x = ix4 z e r j := by
    idx_vars x; exact ⟨_, _, _, _, rfl⟩
  obtain rfl : z = 0 := Subsingleton.elim _ _
  rw [right_emb n hn, Select.right_apply, chunk_apply, won_apply]

/-- The left piece is that part of the block. -/
theorem leftPiece_eq (lp : Plane) (f : Vec Ideal S1x384x16x224 .f32) (n : ℕ) (hn : n < 24) :
    leftPiece lp f n hn = ⟨Rect.unit (s := S1x384x8x112) ![0, 16 * n, 0, 0] S1x16x8x64.size (left_le n hn), fun x => won lp f
      ((Rect.unit (s := S1x384x8x112) ![0, 16 * n, 0, 0] S1x16x8x64.size (left_le n hn)).emb x)⟩ := by
  have h : Select.left lp (chunk f n hn) = fun x => won lp f
      ((Rect.unit (s := S1x384x8x112) ![0, 16 * n, 0, 0] S1x16x8x64.size (left_le n hn)).emb x) :=
    funext (left_won lp f n hn)
  rw [leftPiece, h]

/-- The right piece is that part of the block. -/
theorem rightPiece_eq (lp : Plane) (f : Vec Ideal S1x384x16x224 .f32) (n : ℕ) (hn : n < 24) :
    rightPiece lp f n hn = ⟨Rect.unit (s := S1x384x8x112) ![0, 16 * n, 0, 64] S1x16x8x48.size (right_le n hn), fun x => won lp f
      ((Rect.unit (s := S1x384x8x112) ![0, 16 * n, 0, 64] S1x16x8x48.size (right_le n hn)).emb x)⟩ := by
  have h : Select.right lp (chunk f n hn) = fun x => won lp f
      ((Rect.unit (s := S1x384x8x112) ![0, 16 * n, 0, 64] S1x16x8x48.size (right_le n hn)).emb x) :=
    funext (right_won lp f n hn)
  rw [rightPiece, h]

/-- Every piece agrees with the block. -/
theorem pieces_won (lp : Plane) (f : Vec Ideal S1x384x16x224 .f32) (n : ℕ) (hn : n ≤ 24) :
    ∀ p ∈ pieces lp f n hn, ∀ x : p.1.shape.Idx, p.2 x = won lp f (p.1.emb x) := by
  induction n with
  | zero => intro p hp; exact absurd hp List.not_mem_nil
  | succ n ih =>
    rw [pieces, List.forall_mem_cons, List.forall_mem_cons, rightPiece_eq, leftPiece_eq]
    exact ⟨fun _ => rfl, fun _ => rfl, ih _⟩

/-- The block the kernel leaves. -/
theorem out_eq : out0_A_2 (F := Ideal) c i arg2 harg2 arg3 harg3 arg4 harg4 x0 x1
    = won (lowest c i arg2 harg2 arg3 harg3 arg4 harg4 x1) x0 := by
  funext y
  unfold out0_A_2
  refine View.read_writes_apply_of_pieces _ _ _ _ ?_ y (cover0_A_2 c i arg2 harg2 arg3 harg3 arg4 harg4 x0 x1 y)
  rw [run_eq]
  have h := pieces_won (lowest c i arg2 harg2 arg3 harg3 arg4 harg4 x1) (arg2.view.read (Elt Ideal) (harg2.unread x0)) 24 le_rfl
  rwa [harg2.read_unread] at h ⊢

/-- At every pixel of the block the eighth greatest of its channels. -/
def plane (f : Vec Ideal S1x384x16x224 .f32) : Plane := fun p => Winner.eighth fun e => f (ix4 (0 : Fin 1) e (p 0 : Fin 16) (p 1 : Fin 224))

/-- The loop leaves that plane. -/
theorem lowest_eq : lowest c i arg2 harg2 arg3 harg3 arg4 harg4 x1 = plane x1 := by
  funext p
  obtain ⟨r, x, rfl⟩ : ∃ (r : Fin 16) (x : Fin 224), p = ix2 r x := by idx_vars p; exact ⟨_, _, rfl⟩
  refine Winner.eq_eighth _ _ fun a => ?_
  have h := Top.after Variants.none c none i arg2 harg2 arg3 harg3 arg4 harg4
    (kernelRun0_A.sl.r c arg3 harg3 x1) (kernelRun0_A.sl.r_1 c arg3 harg3 x1) (kernelRun0_A.sl.r_2 c arg3 harg3 x1)
    (kernelRun0_A.sl.r_3 c arg3 harg3 x1) (kernelRun0_A.sl.r_4 c arg3 harg3 x1) (kernelRun0_A.sl.r_5 c arg3 harg3 x1)
    (kernelRun0_A.sl.r_6 c arg3 harg3 x1) (kernelRun0_A.sl.r_7 c arg3 harg3 x1) (harg3.unread x1) r x a
  unfold lowest
  rw [h, harg3.read_unread]
  rfl

end Cert.Proof.Pieces
-- ==== Proof.KernelRun.lean ====
/-
  The kernel's whole result: block by block it is the specification's.
-/
module

public import proofs.«01_k».proof.Proof.Pieces

@[expose] public noncomputable section

set_option maxRecDepth 16384

namespace Cert.Proof.KernelRun

open Idealize.ShloMosaic Idealize.ShloMosaic.TcCoe Idealize.SL Idealize.SL.Sem Cert.KernelIdeal Cert.KernelIdeal.Gen
open Cert.Proof.Flags Cert.Proof.Pieces

variable (m : (ℓ : Loc nD τ sig) → Buf (Elt Ideal) ℓ) (ρ : Dev nD → PrngReg)

/-- A grid point's block of the first argument: its image and its strip of rows, all channels and columns. -/
theorem index0 : ∀ t : Fin cfg0.N, win0_0.index t = ![(grid0.coords t 0).val, 0, (grid0.coords t 1).val, 0] :=
  (by decide +kernel : ∀ t : Fin grid0.N, win0_0.index t = ![(grid0.coords t 0).val, 0, (grid0.coords t 1).val, 0])

/-- Its block of the second argument: the same. -/
theorem index1 : ∀ t : Fin cfg0.N, win0_1.index t = ![(grid0.coords t 0).val, 0, (grid0.coords t 1).val, 0] :=
  (by decide +kernel : ∀ t : Fin grid0.N, win0_1.index t = ![(grid0.coords t 0).val, 0, (grid0.coords t 1).val, 0])

/-- Its block of the result: the same. -/
theorem index2 : ∀ t : Fin cfg0.N, win0_2.index t = ![(grid0.coords t 0).val, 0, (grid0.coords t 1).val, 0] :=
  (by decide +kernel : ∀ t : Fin grid0.N, win0_2.index t = ![(grid0.coords t 0).val, 0, (grid0.coords t 1).val, 0])

/-- The image a grid point works on. -/
def image (t : Fin cfg0.N) : Fin 2 := grid0.coords t 0

/-- Its strip of rows. -/
def strip (t : Fin cfg0.N) : Fin 14 := grid0.coords t 1

/-- What the point reads of the first argument. -/
theorem read0 (c : Dev nD) (t : Fin cfg0.N) (e : Fin 384) (r : Fin 16) (x : Fin 224) :
    iblk m c 0 t (ix4 (0 : Fin 1) e r x)
      = m ((c : Thread nD τ).loc main_arg0) (ix4 (image t) e (⟨16 * (strip t).val + r.val, by omega⟩ : Fin 224) x) := by
  blk_simp [iblk]
  rw [V_main_arg0]
  refine congrArg (m _) ?_
  blk_ext [index0]
  · rfl
  · exact congrArg (· + r.val) (Nat.mul_comm _ _)

/-- What it reads of the second. -/
theorem read1 (c : Dev nD) (t : Fin cfg0.N) (e : Fin 384) (r : Fin 16) (x : Fin 224) :
    iblk m c 1 t (ix4 (0 : Fin 1) e r x)
      = m ((c : Thread nD τ).loc main_arg1) (ix4 (image t) e (⟨16 * (strip t).val + r.val, by omega⟩ : Fin 224) x) := by
  blk_simp [iblk]
  rw [V_main_arg1]
  refine congrArg (m _) ?_
  blk_ext [index1]
  · rfl
  · exact congrArg (· + r.val) (Nat.mul_comm _ _)

/-- Where an entry of the point's block of the result lies. -/
theorem place (t : Fin cfg0.N) (e : Fin 384) (r : Fin 8) (j : Fin 112) :
    (win0_2.blk t).view.emb (ix4 (0 : Fin 1) e r j) = ix4 (image t) e (⟨8 * (strip t).val + r.val, by omega⟩ : Fin 112) j := by
  blk_ext [index2]
  · rfl
  · exact congrArg (· + r.val) (Nat.mul_comm _ _)

/-- The four numbers the point compares are those of the specification. -/
theorem pixel_eq (c : Dev nD) (t : Fin cfg0.N) (r : Fin 8) (j : Fin 112) :
    pixel (plane (iblk m c 1 t)) r j
      = Winner.four (m ((c : Thread nD τ).loc main_arg1)) (image t) ⟨8 * (strip t).val + r.val, by omega⟩ j := by
  funext u v
  refine congrArg Winner.eighth (funext fun e => ?_)
  refine (read1 m c t e _ _).trans ?_
  refine congrArg (fun a : Fin 224 => (m ((c : Thread nD τ).loc main_arg1) : Winner.Full.Idx → EReal) (ix4 (image t) e a _))
    (Fin.ext ?_)
  show 16 * (strip t).val + (2 * r.val + u.val) = 2 * (8 * (strip t).val + r.val) + u.val
  omega

/-- What the point stores is its block of the specified result. -/
theorem won_eq (c : Dev nD) (t : Fin cfg0.N) (y : S1x384x8x112.Idx) : won (plane (iblk m c 1 t)) (iblk m c 0 t) y =
    Winner.result (m ((c : Thread nD τ).loc main_arg0)) (m ((c : Thread nD τ).loc main_arg1)) ((win0_2.blk t).view.emb y) := by
  obtain ⟨z, e, r, j, rfl⟩ : ∃ (z : Fin 1) (e : Fin 384) (r : Fin 8) (j : Fin 112), y = ix4 z e r j := by
    idx_vars y; exact ⟨_, _, _, _, rfl⟩
  obtain rfl : z = 0 := Subsingleton.elim _ _
  rw [place, won_apply, read0]
  have hy : dy (plane (iblk m c 1 t)) r j = Winner.row _ := congrArg Winner.row (pixel_eq m c t r j)
  have hx : dx (plane (iblk m c 1 t)) r j = Winner.column _ := congrArg Winner.column (pixel_eq m c t r j)
  refine congrArg₂ (fun a b : Fin 224 => (m ((c : Thread nD τ).loc main_arg0) : Winner.Full.Idx → EReal) (ix4 (image t) e a b))
    (Fin.ext ?_) (Fin.ext (congrArg (fun a : Fin 2 => 2 * j.val + a.val) hx))
  show 16 * (strip t).val + (2 * r.val + (dy _ r j).val) = 2 * (8 * (strip t).val + r.val)
    + (Winner.row (Winner.four (m ((c : Thread nD τ).loc main_arg1)) (image t) ⟨8 * (strip t).val + r.val, by omega⟩ j)).val
  rw [hy]
  omega

/-- The array after the kernel. -/
theorem final (c : Dev nD) : (dats m 0 c).arrAt 2 cfg0.N
    = Winner.result (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [out_eq, lowest_eq]
  exact won_eq m c t y

/-- The kernel, run from any memory, leaves the result and keeps its arguments. -/
theorem run : θ_run defs (onTc (τ := τ) (main (F := Ideal))) ⟨m, fun _ => 0, ρ⟩ fun r => ∀ c : Dev nD,
    r.2.mem ((c : Thread nD τ).loc main_v0)
      = Winner.result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (final m c), (h c).2⟩) (Value.run_blocks m ρ)

end Cert.Proof.KernelRun
-- ==== Proof.RefRun.lean ====
/-
  The run of the reference program: a straight line of forty-two operations over the host's buffers. Every fair execution
  ends with the result buffer holding `pooled` of the two arguments, the composed term defined below stage by stage, and
  with the arguments as they were.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The stages of the result -/

/-- The activations, sorted from the greatest down along the channels. -/
def sorted (x : FVec F S2x384x224x224 .f32) : FVec F S2x384x224x224 .f32 :=
  Host.negf (Host.sort S2x384x224x224 1 comparator_f32_d1 (Host.negf x))

/-- The eighth of them at each place of each image, the four places of a 2 x 2 block side by side. -/
def blocks (x : FVec F S2x384x224x224 .f32) : FVec F S2x112x112x4 .f32 :=
  shapeCast _ (transpose S2x112x112x2x2 [0, 1, 3, 2, 4] (shapeCast S2x112x2x112x2 (shapeCast S2x224x224
    (extractStridedSlice S2x1x224x224 ![0, 7, 0, 0] (sorted x) slices_S2x384x224x224_S2x1x224x224_0_7_0_0)
    shapeCasts_S2x1x224x224_S2x224x224) shapeCasts_S2x224x224_S2x112x2x112x2)
    transposes_S2x112x2x112x2_S2x112x112x2x2_0_1_3_2_4) shapeCasts_S2x112x112x2x2_S2x112x112x4

/-- Which of a block's four places wins: the first of the greatest. -/
def winner (x : FVec F S2x384x224x224 .f32) : IVec S2x112x112 32 := fun j =>
  (Host.argReduce reducer_argmax_f32_i32 (blocks x) (iotaInDim S2x112x112x4 32 3) (constant S_ .f32 0xFF800000#32)
    (constantI S_ 32 0#32) reducesTo_S2x112x112x4_S2x112x112_d3 h_S_ j).2

/-- The encoded array, the four places of a block side by side. -/
def places (e : FVec F S2x384x224x224 .f32) : FVec F S2x112x112x384x4 .f32 :=
  shapeCast _ (transpose S2x112x112x384x2x2 [0, 2, 4, 1, 3, 5]
    (shapeCast S2x384x112x2x112x2 e shapeCasts_S2x384x224x224_S2x384x112x2x112x2)
    transposes_S2x384x112x2x112x2_S2x112x112x384x2x2_0_2_4_1_3_5) shapeCasts_S2x112x112x384x2x2_S2x112x112x384x4

/-- The winner repeated for every channel. -/
def spread (w : IVec S2x112x112 32) : IVec S2x112x112x384x1 32 :=
  broadcastInDim S2x112x112x384x1 ![0, 1, 2, 3, 4] bcast_S2x112x112x1x1_S2x112x112x384x1_0_1_2_3_4
    (broadcastInDim S2x112x112x1x1 ![0, 1, 2] bcast_S2x112x112_S2x112x112x1x1_0_1_2 w)

/-- An index below zero counts from the end. -/
def wrapped (i : IVec S2x112x112x384x1 32) : IVec S2x112x112x384x1x1 32 :=
  shapeCast _ (select (cmpi .slt i (broadcastInDim S2x112x112x384x1 ![] bcast_S_S2x112x112x384x1 (constantI S_ 32 0#32)))
    (addi i (broadcastInDim S2x112x112x384x1 ![] bcast_S_S2x112x112x384x1 (constantI S_ 32 4#32))) i)
    shapeCasts_S2x112x112x384x1_S2x112x112x384x1x1

/-- Whether an index is one of the four places. -/
def inside (i : IVec S2x112x112x384x1x1 32) : IVec S2x112x112x384x1 1 :=
  Host.reduce IntOp.andi
    (andi (cmpi .sge i (broadcastInDim S2x112x112x384x1x1 ![] bcast_S_S2x112x112x384x1x1 (constantI S_ 32 0#32)))
      (cmpi .sle i (broadcastInDim S2x112x112x384x1x1 ![0, 1, 2, 3, 4, 5] bcast_S1x1x1x1x1x1_S2x112x112x384x1x1_0_1_2_3_4_5
        (broadcastInDim S1x1x1x1x1x1 ![5] bcast_S1_S1x1x1x1x1x1_5 (constantI S1 32 3#32)))))
    (constantI S_ 1 1#1) reducesTo_S2x112x112x384x1x1_S2x112x112x384x1_d5 h_S_

/-- The entry of `p` at each index, and the filling constant where the index is none of the four places. -/
def taken (p : FVec F S2x112x112x384x4 .f32) (i : IVec S2x112x112x384x1x1 32) : FVec F S2x112x112x384x1 .f32 :=
  select (inside i)
    (Host.gather gather_S2x112x112x384x4_S2x112x112x384x1x1_S2x112x112x384x1_n_4_0123_0123_4_5_11111 p i)
    (broadcastInDim S2x112x112x384x1 ![] bcast_S_S2x112x112x384x1 (constant S_ .f32 0x7FC00000#32))

/-- The reference's result: the encoded array at the winning place of each block, the channels second again. -/
def pooled (e x : FVec F S2x384x224x224 .f32) : FVec F S2x384x112x112 .f32 :=
  transpose S2x384x112x112 [0, 3, 1, 2] (shapeCast S2x112x112x384 (taken (places e) (wrapped (spread (winner x))))
    shapeCasts_S2x112x112x384x1_S2x112x112x384) transposes_S2x112x112x384_S2x384x112x112_0_3_1_2

/-! ## The run -/

/-- @main's operations, in order. -/
abbrev ops : List (HloOp τ sig (Elt F)) :=
  [ unary main_arg1 main_v0 (Host.negf : (⟨S2x384x224x224, .f32⟩ : BufTy).Contents (Elt F) → (⟨S2x384x224x224, .f32⟩ : BufTy).Contents (Elt F)),
    TRef.unary (.of main_v0) main_call0.v0 (fun x => Host.sort S2x384x224x224 1 comparator_f32_d1 x),
    unary main_v1 main_v2 (Host.negf : (⟨S2x384x224x224, .f32⟩ : BufTy).Contents (Elt F) → (⟨S2x384x224x224, .f32⟩ : BufTy).Contents (Elt F)),
    unary main_v2 main_v3 ((extractStridedSlice S2x1x224x224 ![0, 7, 0, 0] · slices_S2x384x224x224_S2x1x224x224_0_7_0_0) : (⟨S2x384x224x224, .f32⟩ : BufTy).Contents (Elt F) → (⟨S2x1x224x224, .f32⟩ : BufTy).Contents (Elt F)),
    reshape main_v3 main_v4 (rfl : (.f32 : EltTy) = .f32) shapeCasts_S2x1x224x224_S2x224x224,
    reshape main_v4 main_v5 (rfl : (.f32 : EltTy) = .f32) shapeCasts_S2x224x224_S2x112x2x112x2,
    unary main_v5 main_v6 ((transpose S2x112x112x2x2 [0, 1, 3, 2, 4] · transposes_S2x112x2x112x2_S2x112x112x2x2_0_1_3_2_4) : (⟨S2x112x2x112x2, .f32⟩ : BufTy).Contents (Elt F) → (⟨S2x112x112x2x2, .f32⟩ : BufTy).Contents (Elt F)),
    reshape main_v6 main_v7 (rfl : (.f32 : EltTy) = .f32) shapeCasts_S2x112x112x2x2_S2x112x112x4,
    TRef.nullary main_call1.v0 (iotaInDim S2x112x112x4 32 3),
    TRef.nullary main_call1.cst (constant S_ .f32 0xFF800000#32),
    TRef.nullary main_call1.c (constantI S_ 32 0#32),
    TRef.quaternary (.of main_v7) main_call1.v0 main_call1.cst main_call1.c main_call1.v1_0 (fun x y u v j => (Host.argReduce reducer_argmax_f32_i32 x y u v reducesTo_S2x112x112x4_S2x112x112_d3 h_S_ j).1),
    TRef.quaternary (.of main_v7) main_call1.v0 main_call1.cst main_call1.c main_call1.v1_1 (fun x y u v j => (Host.argReduce reducer_argmax_f32_i32 x y u v reducesTo_S2x112x112x4_S2x112x112_d3 h_S_ j).2),
    reshape main_arg0 main_v9 (rfl : (.f32 : EltTy) = .f32) shapeCasts_S2x384x224x224_S2x384x112x2x112x2,
    unary main_v9 main_v10 ((transpose S2x112x112x384x2x2 [0, 2, 4, 1, 3, 5] · transposes_S2x384x112x2x112x2_S2x112x112x384x2x2_0_2_4_1_3_5) : (⟨S2x384x112x2x112x2, .f32⟩ : BufTy).Contents (Elt F) → (⟨S2x112x112x384x2x2, .f32⟩ : BufTy).Contents (Elt F)),
    reshape main_v10 main_v11 (rfl : (.f32 : EltTy) = .f32) shapeCasts_S2x112x112x384x2x2_S2x112x112x384x4,
    unary main_v8 main_v12 (broadcastInDim S2x112x112x1x1 ![0, 1, 2] bcast_S2x112x112_S2x112x112x1x1_0_1_2 : (⟨S2x112x112, .i32⟩ : BufTy).Contents (Elt F) → (⟨S2x112x112x1x1, .i32⟩ : BufTy).Contents (Elt F)),
    unary main_v12 main_v13 (broadcastInDim S2x112x112x384x1 ![0, 1, 2, 3, 4] bcast_S2x112x112x1x1_S2x112x112x384x1_0_1_2_3_4 : (⟨S2x112x112x1x1, .i32⟩ : BufTy).Contents (Elt F) → (⟨S2x112x112x384x1, .i32⟩ : BufTy).Contents (Elt F)),
    TRef.nullary main_call2.c (constantI S_ 32 0#32),
    TRef.unary main_call2.c main_call2.v0 (broadcastInDim S2x112x112x384x1 ![] bcast_S_S2x112x112x384x1),
    TRef.binary (.of main_v13) main_call2.v0 main_call2.v1 (cmpi .slt),
    TRef.nullary main_call2.c_0 (constantI S_ 32 4#32),
    TRef.unary main_call2.c_0 main_call2.v2 (broadcastInDim S2x112x112x384x1 ![] bcast_S_S2x112x112x384x1),
    TRef.binary (.of main_v13) main_call2.v2 main_call2.v3 addi,
    TRef.ternary main_call2.v1 main_call2.v3 (.of main_v13) main_call2.v4 select,
    TRef.reshape main_call2.v4 main_call2.v5 (rfl : (.i32 : EltTy) = .i32) shapeCasts_S2x112x112x384x1_S2x112x112x384x1x1,
    TRef.nullary main_call2.c_1 (constantI S1 32 3#32),
    TRef.nullary main_call2.c_2 (constantI S_ 32 0#32),
    TRef.unary main_call2.c_2 main_call2.v6 (broadcastInDim S2x112x112x384x1x1 ![] bcast_S_S2x112x112x384x1x1),
    TRef.binary main_call2.v5 main_call2.v6 main_call2.v7 (cmpi .sge),
    TRef.unary main_call2.c_1 main_call2.v8 (broadcastInDim S1x1x1x1x1x1 ![5] bcast_S1_S1x1x1x1x1x1_5),
    TRef.unary main_call2.v8 main_call2.v9 (broadcastInDim S2x112x112x384x1x1 ![0, 1, 2, 3, 4, 5] bcast_S1x1x1x1x1x1_S2x112x112x384x1x1_0_1_2_3_4_5),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S2x112x112x384x1x1_S2x112x112x384x1_d5 h_S_),
    TRef.binary (.of main_v11) main_call2.v5 main_call2.v13 (fun x i => Host.gather gather_S2x112x112x384x4_S2x112x112x384x1x1_S2x112x112x384x1_n_4_0123_0123_4_5_11111 x i),
    TRef.nullary main_call2.cst (constant S_ .f32 0x7FC00000#32),
    TRef.unary main_call2.cst main_call2.v14 (broadcastInDim S2x112x112x384x1 ![] bcast_S_S2x112x112x384x1),
    TRef.ternary main_call2.v12 main_call2.v13 main_call2.v14 main_call2.v15 select,
    reshape main_v14 main_v15 (rfl : (.f32 : EltTy) = .f32) shapeCasts_S2x112x112x384x1_S2x112x112x384,
    unary main_v15 main_v16 ((transpose S2x384x112x112 [0, 3, 1, 2] · transposes_S2x112x112x384_S2x384x112x112_0_3_1_2) : (⟨S2x112x112x384, .f32⟩ : BufTy).Contents (Elt F) → (⟨S2x384x112x112, .f32⟩ : BufTy).Contents (Elt F)) ]

set_option maxRecDepth 8192 in
/-- @main is that straight line. -/
theorem main_eq (c : Dev nD) : main (F := F) c = seq ops := rfl

/-- No buffer of the reference is scoped. -/
theorem scopedRefs_eq : (Finset.univ.filter fun b : Ref sig .tc => b.isScoped) = ∅ := by decide

/-- No semaphore of the reference is scoped. -/
theorem scopedSems_eq : (Finset.univ.filter fun sm : SemLoc sig => sm.isScoped .tc) = ∅ := by decide

set_option maxRecDepth 8192 in
/-- The operations touch the TensorCore's buffers alone. -/
theorem ops_sub : (ops : List (HloOp τ sig (Elt F))).Forall fun op => op.bufs ⊆ tcRefs τ sig :=
  ⟨unary_bufs_sub .., unary_bufs_sub .., unary_bufs_sub .., unary_bufs_sub .., reshape_bufs_sub ..,
   reshape_bufs_sub .., unary_bufs_sub .., reshape_bufs_sub .., nullary_bufs_sub .., nullary_bufs_sub ..,
   nullary_bufs_sub .., quaternary_bufs_sub .., quaternary_bufs_sub .., reshape_bufs_sub .., unary_bufs_sub ..,
   reshape_bufs_sub .., unary_bufs_sub .., unary_bufs_sub .., nullary_bufs_sub .., unary_bufs_sub ..,
   binary_bufs_sub .., nullary_bufs_sub .., unary_bufs_sub .., binary_bufs_sub .., ternary_bufs_sub ..,
   reshape_bufs_sub .., nullary_bufs_sub .., nullary_bufs_sub .., unary_bufs_sub .., binary_bufs_sub ..,
   unary_bufs_sub .., unary_bufs_sub .., binary_bufs_sub .., binary_bufs_sub .., nullary_bufs_sub ..,
   binary_bufs_sub .., binary_bufs_sub .., nullary_bufs_sub .., unary_bufs_sub .., ternary_bufs_sub ..,
   reshape_bufs_sub .., unary_bufs_sub ..⟩

set_option maxRecDepth 8192 in
set_option maxHeartbeats 4000000 in
/-- Every fair execution of the reference ends with `pooled` of the arguments in the result buffer and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v16).trans (by
          simp only [ops, TRef.binary, TRef.nullary, TRef.reshape, TRef.ternary, TRef.quaternary, TRef.unary, TRef.toBuf,
            TRef.ofBuf, cast_eq]
          after_results_simp <;> rfl <;>
            (unfold pooled taken inside wrapped spread places winner blocks sorted; rfl)),
        (h c main_arg0).trans (by
          simp only [ops, TRef.binary, TRef.nullary, TRef.reshape, TRef.ternary, TRef.quaternary, TRef.unary, TRef.toBuf,
            TRef.ofBuf, cast_eq]
          after_results_simp <;> rfl),
        (h c main_arg1).trans (by
          simp only [ops, TRef.binary, TRef.nullary, TRef.reshape, TRef.ternary, TRef.quaternary, TRef.unary, TRef.toBuf,
            TRef.ofBuf, cast_eq]
          after_results_simp <;> rfl)⟩)
    (run_seq scopedRefs_eq scopedSems_eq defs main (fun _ => ops) main_eq (fun _ => ops_sub) m ρ)

end Cert.Proof.Ref

end
-- ==== Proof.RefSort.lean ====
/-
  The reference's sorted activations. The value at place `k` reaches a threshold if and only if more than `k` of the
  channels do, so the one at place seven is the eighth greatest.
-/
module

public import proofs.«01_k».proof.Proof.RefRun
public import proofs.«01_k».proof.Proof.Winner
public import Idealize.ShloMosaic.Lib.SortFacts

@[expose] public noncomputable section

namespace Cert.Proof.RefSort

open Idealize.ShloMosaic Cert.ReferenceIdeal Cert.ReferenceIdeal.Gen

/-- In a list sorted from the least up, an entry is at most a bound if and only if more entries than there are before it
    are. -/
theorem le_iff_lt_count {n : ℕ} (f : Fin n → EReal) (σ : Fin n → Fin n) (hσ : Function.Bijective σ)
    (hm : ∀ i j, i < j → f (σ i) ≤ f (σ j)) (k : Fin n) (b : EReal) :
    f (σ k) ≤ b ↔ k.val < ∑ e, if f e ≤ b then 1 else 0 := by
  rw [← (Equiv.ofBijective σ hσ).sum_comp, ← Finset.card_filter]
  simp only [Equiv.ofBijective_apply]
  constructor
  · intro h
    have hs : Finset.Iic k ⊆ Finset.univ.filter fun i => f (σ i) ≤ b := by
      intro i hi
      rw [Finset.mem_filter]
      refine ⟨Finset.mem_univ _, ?_⟩
      rcases (Finset.mem_Iic.mp hi).lt_or_eq with hlt | rfl
      · exact (hm i k hlt).trans h
      · exact h
    have := Finset.card_le_card hs
    rw [Fin.card_Iic] at this
    omega
  · intro h
    by_contra hb
    have hs : (Finset.univ.filter fun i => f (σ i) ≤ b) ⊆ Finset.Iio k := by
      intro i hi
      rw [Finset.mem_filter] at hi
      rw [Finset.mem_Iio]
      by_contra hik
      rcases (not_lt.mp hik).lt_or_eq with hlt | rfl
      · exact hb ((hm k i hlt).trans hi.2)
      · exact hb hi.2
    have := Finset.card_le_card hs
    rw [Fin.card_Iio] at this
    omega

/-- What the comparison does to each number first leaves it as it is. -/
theorem plain_eq (l n : EReal) :
    Scalar.select (FloatOps.cmpf (F := Ideal) (φ := .f32) .une l l) n
      (Scalar.select (FloatOps.cmpf (F := Ideal) (φ := .f32) .oeq l (0 : EReal)) (0 : EReal) l) = l := by
  have h : FloatOps.cmpf (F := Ideal) (φ := .f32) .une l l = 0#1 := by
    show Ideal.cmp .une l l = 0#1
    simp [Ideal.cmp]
  have h' : FloatOps.cmpf (F := Ideal) (φ := .f32) .oeq l (0 : EReal) = if l = 0 then 1#1 else 0#1 := by
    show Ideal.cmp .oeq l 0 = _
    by_cases h : l = 0 <;> simp [Ideal.cmp, h]
  rw [h, h']
  by_cases hl : l = 0 <;> simp [Scalar.select, hl]

/-- The sort's comparison is the order of the numbers. -/
theorem comparator_eq (l r : EReal) : comparator_f32_d1 (F := Ideal) l r = if l < r then 1#1 else 0#1 := by
  simp [comparator_f32_d1]
  rw [plain_eq, plain_eq]
  show Ideal.cmp .olt l r = _
  by_cases h : l < r <;> simp [Ideal.cmp, h]

/-- The eighth channel after sorting. -/
theorem sorted_apply (x : FVec Ideal S2x384x224x224 .f32) (b : Fin 2) (r c : Fin 224) :
    Ref.sorted x (ix4 b (7 : Fin 384) r c) = Winner.eighth fun e => x (ix4 b e r c) := by
  refine Winner.eq_eighth _ _ fun a => ?_
  let f : Fin 384 → EReal := fun e => - x (ix4 b e r c)
  let before : Fin 384 → Fin 384 → Bool := fun k k' => comparator_f32_d1 (F := Ideal) (f k) (f k') == 1#1
  have hb : ∀ k k', before k k' = decide (f k < f k') := by
    intro k k'
    simp only [before, comparator_eq]
    by_cases h : f k < f k' <;> simp [h]
  have hs : Ref.sorted x (ix4 b (7 : Fin 384) r c) = - f (sortedFrom before 7) := by
    have along : ∀ e : Fin 384, (ix4 b (7 : Fin 384) r c : S2x384x224x224.Idx).along 1 e = ix4 b e r c := by
      intro e
      funext i
      fin_cases i <;> rfl
    show - (Host.sort S2x384x224x224 1 (comparator_f32_d1 (F := Ideal)) (Host.negf x)) (ix4 b (7 : Fin 384) r c) = _
    unfold Host.sort
    rw [dif_pos (show 1 < S2x384x224x224.rank by decide)]
    congr 1
    have hf : ∀ e : Fin 384, (Host.negf x) ((ix4 b (7 : Fin 384) r c : S2x384x224x224.Idx).along 1 e) = f e := by
      intro e
      rw [along]
      rfl
    refine (hf _).trans (congrArg f ?_)
    refine congrArg (fun R => sortedFrom R (7 : Fin 384)) ?_
    funext k k'
    exact congrArg₂ (fun u v => comparator_f32_d1 (F := Ideal) u v == 1#1) (hf k) (hf k')
  have h := le_iff_lt_count f (sortedFrom before) ⟨sortedFrom_injective _, sortedFrom_surjective _⟩ (fun i j hij => by
    have := sortedFrom_noInversion before before (fun a b h => by rw [hb] at h ⊢; simp at h ⊢; exact h.le) (fun _ _ h => h)
      (fun a b c h h' => by rw [hb] at h h' ⊢; simp at h h' ⊢; exact h'.trans h) i j hij
    rw [hb] at this
    simpa using this) 7 (-a)
  rw [hs, EReal.le_neg, h]
  simp only [f, EReal.neg_le_neg_iff]
  rfl

end Cert.Proof.RefSort
-- ==== Proof.RefWinner.lean ====
/-
  The reference's arg-max over a 2 x 2 block: it picks, of the block's four places numbered row by row, the first that
  holds the greatest value.
-/
module

public import proofs.«01_k».proof.Proof.RefSort
public import Idealize.ShloMosaic.Lib.Pointwise

@[expose] public noncomputable section

set_option maxRecDepth 16384

namespace Cert.Proof.RefWinner

open Idealize.ShloMosaic Cert.ReferenceIdeal Cert.ReferenceIdeal.Gen

/-! ## The fold -/

/-- `p` is at least as good as `q`: a greater value, or the same value at no later a place. -/
def Beats (p q : EReal × BitVec 32) : Prop := q.1 < p.1 ∨ q.1 = p.1 ∧ p.2.toInt ≤ q.2.toInt

/-- A pair is at least as good as itself. -/
theorem Beats.refl (p : EReal × BitVec 32) : Beats p p := .inr ⟨rfl, le_rfl⟩

/-- What is at least as good as a second pair is at least as good as all that the second one is. -/
theorem Beats.trans {p q r : EReal × BitVec 32} (h : Beats p q) (h' : Beats q r) : Beats p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- Two pairs each at least as good as the other are the same. -/
theorem Beats.antisymm {p q : EReal × BitVec 32} (h : Beats p q) (h' : Beats q p) : p = q := by
  rcases h with h | ⟨h, hi⟩ <;> rcases h' with h' | ⟨h', hi'⟩
  · exact absurd h (lt_asymm h')
  · exact absurd h (h' ▸ lt_irrefl _)
  · exact absurd h' (h ▸ lt_irrefl _)
  · exact Prod.ext h' (BitVec.eq_of_toInt_eq (le_antisymm hi hi'))

/-- One step of the arg-max keeps one of its two arguments, and the one it keeps is at least as good as both. -/
theorem reducer_spec (a b : EReal × BitVec 32) :
    let c := reducer_argmax_f32_i32 (F := Ideal) a b
    (c = a ∨ c = b) ∧ Beats c a ∧ Beats c b := by
  obtain ⟨a, i⟩ := a
  obtain ⟨b, j⟩ := b
  have h0 : FloatOps.cmpf (F := Ideal) (φ := .f32) .une a a = 0#1 := by
    show Ideal.cmp .une a a = 0#1
    simp [Ideal.cmp]
  have h1 : FloatOps.cmpf (F := Ideal) (φ := .f32) .ogt a b = if b < a then 1#1 else 0#1 := by
    show Ideal.cmp .ogt a b = _
    by_cases h : b < a <;> simp [Ideal.cmp, h]
  have h2 : FloatOps.cmpf (F := Ideal) (φ := .f32) .oeq a b = if a = b then 1#1 else 0#1 := by
    show Ideal.cmp .oeq a b = _
    by_cases h : a = b <;> simp [Ideal.cmp, h]
  have h3 : IntOp.cmpi .slt i j = if i.toInt < j.toInt then 1#1 else 0#1 := by
    by_cases h : i.toInt < j.toInt <;> simp [IntOp.cmpi, BitVec.slt, h]
  have hc : reducer_argmax_f32_i32 (F := Ideal) (a, i) (b, j)
      = if b < a then (a, i) else if a = b ∧ i.toInt < j.toInt then (a, i) else (b, j) := by
    unfold reducer_argmax_f32_i32
    simp only [h0, h1, h2, h3]
    by_cases hab : b < a
    · simp [hab, hab.ne', IntOp.ori, IntOp.andi, Scalar.select]
    · by_cases he : a = b
      · subst he
        by_cases hij : i.toInt < j.toInt <;> simp [hij, IntOp.ori, IntOp.andi, Scalar.select]
      · simp [hab, he, IntOp.ori, IntOp.andi, Scalar.select]
  simp only [hc]
  by_cases hab : b < a
  · rw [if_pos hab]
    exact ⟨.inl rfl, .refl _, .inl hab⟩
  · rw [if_neg hab]
    by_cases h : a = b ∧ i.toInt < j.toInt
    · rw [if_pos h]
      exact ⟨.inl rfl, .refl _, .inr ⟨h.1.symm, h.2.le⟩⟩
    · rw [if_neg h]
      refine ⟨.inr rfl, ?_, .refl _⟩
      rcases (not_lt.mp hab).lt_or_eq with hlt | heq
      · exact .inl hlt
      · exact .inr ⟨heq, not_lt.mp fun hij => h ⟨heq, hij⟩⟩

/-- The arg-max of a list is a member of it, or the pair it starts from, and at least as good as all of these. -/
theorem foldl_spec (l : List (EReal × BitVec 32)) (a : EReal × BitVec 32) :
    let c := l.foldl (reducer_argmax_f32_i32 (F := Ideal)) a
    (c = a ∨ c ∈ l) ∧ Beats c a ∧ ∀ q ∈ l, Beats c q := by
  induction l generalizing a with
  | nil => exact ⟨.inl rfl, .refl _, by simp⟩
  | cons b l ih =>
    obtain ⟨hm, ha, hb⟩ := reducer_spec a b
    obtain ⟨hm', ha', hl⟩ := ih (reducer_argmax_f32_i32 (F := Ideal) a b)
    refine ⟨?_, ha'.trans ha, ?_⟩
    · rcases hm' with h | h
      · rcases hm with h' | h'
        · exact .inl (h.trans h')
        · exact .inr (List.mem_cons.mpr (.inl (h.trans h')))
      · exact .inr (List.mem_cons_of_mem _ h)
    · intro q hq
      rcases List.mem_cons.mp hq with rfl | hq
      · exact ha'.trans hb
      · exact hl q hq

/-- If one pair is on the list and is at least as good as the start and everything listed, it is the arg-max. -/
theorem foldl_eq (l : List (EReal × BitVec 32)) (a w : EReal × BitVec 32) (hw : w ∈ l) (ha : Beats w a)
    (hl : ∀ q ∈ l, Beats w q) : l.foldl (reducer_argmax_f32_i32 (F := Ideal)) a = w := by
  obtain ⟨hm, -, hq⟩ := foldl_spec l a
  refine (hq w hw).antisymm ?_
  rcases hm with h | h
  · rw [h]
    exact ha
  · exact hl _ h

/-! ## The four places of a block -/

/-- The number of a place of a block, counted row by row. -/
def place (u v : Fin 2) : Fin 4 := ⟨2 * u + v, by omega⟩

/-- The place that the arg-max has to find. -/
def best (p : Fin 2 → Fin 2 → EReal) : Fin 4 := place (Winner.row p) (Winner.column p)

/-- A value that is no smaller, at a place that is no later, is at least as good. -/
theorem Beats.of_le {p q : EReal} {i j : Fin 4} (h : q ≤ p) (hij : i ≤ j) :
    Beats (p, BitVec.ofNat 32 i) (q, BitVec.ofNat 32 j) := by
  rcases h.lt_or_eq with h | h
  · exact .inl h
  · refine .inr ⟨h, ?_⟩
    have : ∀ i j : Fin 4, i ≤ j → (BitVec.ofNat 32 i).toInt ≤ (BitVec.ofNat 32 j).toInt := by decide
    exact this i j hij

/-- The winner of a block is at least as good as each of its places. -/
theorem best_beats (p : Fin 2 → Fin 2 → EReal) (u v : Fin 2) :
    Beats (p (Winner.row p) (Winner.column p), BitVec.ofNat 32 (best p)) (p u v, BitVec.ofNat 32 (place u v)) := by
  unfold best
  by_cases h : max (p 1 0) (p 1 1) ≤ max (p 0 0) (p 0 1)
  · have hr : Winner.row p = 0 := if_pos h
    by_cases hc : p 0 1 ≤ p 0 0
    · have hcol : Winner.column p = 0 := by unfold Winner.column; rw [hr]; exact if_pos hc
      rw [max_eq_left hc] at h
      rw [hr, hcol]
      fin_cases u <;> fin_cases v
      · exact .of_le le_rfl (by decide)
      · exact .of_le hc (by decide)
      · exact .of_le ((le_max_left _ _).trans h) (by decide)
      · exact .of_le ((le_max_right _ _).trans h) (by decide)
    · have hcol : Winner.column p = 1 := by unfold Winner.column; rw [hr]; exact if_neg hc
      have hc := not_le.mp hc
      rw [max_eq_right hc.le] at h
      rw [hr, hcol]
      fin_cases u <;> fin_cases v
      · exact .inl hc
      · exact .of_le le_rfl (by decide)
      · exact .of_le ((le_max_left _ _).trans h) (by decide)
      · exact .of_le ((le_max_right _ _).trans h) (by decide)
  · have hr : Winner.row p = 1 := if_neg h
    have h := not_le.mp h
    by_cases hc : p 1 1 ≤ p 1 0
    · have hcol : Winner.column p = 0 := by unfold Winner.column; rw [hr]; exact if_pos hc
      rw [max_eq_left hc] at h
      rw [hr, hcol]
      fin_cases u <;> fin_cases v
      · exact .inl ((le_max_left _ _).trans_lt h)
      · exact .inl ((le_max_right _ _).trans_lt h)
      · exact .of_le le_rfl (by decide)
      · exact .of_le hc (by decide)
    · have hcol : Winner.column p = 1 := by unfold Winner.column; rw [hr]; exact if_neg hc
      have hc := not_le.mp hc
      rw [max_eq_right hc.le] at h
      rw [hr, hcol]
      fin_cases u <;> fin_cases v
      · exact .inl ((le_max_left _ _).trans_lt h)
      · exact .inl ((le_max_right _ _).trans_lt h)
      · exact .inl hc
      · exact .of_le le_rfl (by decide)

/-- The winner of a block is at least as good as the pair that the arg-max starts from. -/
theorem best_beats_start (p : Fin 2 → Fin 2 → EReal) :
    Beats (p (Winner.row p) (Winner.column p), BitVec.ofNat 32 (best p)) (⊥, 0#32) := by
  refine (best_beats p 0 0).trans ?_
  exact Beats.of_le (i := 0) (j := 0) bot_le le_rfl

/-- The values of a block, in the reference's order. -/
theorem blocks_apply (x : FVec Ideal S2x384x224x224 .f32) (b : Fin 2) (r j : Fin 112) (u v : Fin 2) :
    Ref.blocks x (ix4 b r j (place u v)) = Winner.four x b r j u v := by
  unfold Ref.blocks
  pointwise []
  rw [RefSort.sorted_apply]
  have hu : (place u v).val / 2 = u.val := by unfold place; dsimp only; omega
  have hv : (place u v).val % 2 = v.val := by unfold place; dsimp only; omega
  unfold Winner.four
  congr 1
  funext e
  exact congrArg₂ (fun s t => x (ix4 b e s t)) (Fin.ext (by dsimp only; omega)) (Fin.ext (by dsimp only; omega))

/-- The arg-max's start, below every value. -/
theorem start_eq : (FloatOps.ofBits .f32 0xFF800000#32 : Ideal .f32) = (⊥ : EReal) := by
  show Ideal.ofBits .f32 0xFF800000#32 = ⊥
  simp [Ideal.ofBits, Ideal.ieee]

/-- The block that a place belongs to. -/
theorem drop_apply (b : Fin 2) (r j : Fin 112) (k : Fin 4) :
    Shape.ReducesTo.drop reducesTo_S2x112x112x4_S2x112x112_d3 (ix4 b r j k) = ix3 b r j := by
  funext i
  fin_cases i
  · exact Fin.ext (Shape.ReducesTo.drop_apply_val_of_eq reducesTo_S2x112x112x4_S2x112x112_d3 _ 0 0)
  · exact Fin.ext (Shape.ReducesTo.drop_apply_val_of_eq reducesTo_S2x112x112x4_S2x112x112_d3 _ 1 1)
  · exact Fin.ext (Shape.ReducesTo.drop_apply_val_of_eq reducesTo_S2x112x112x4_S2x112x112_d3 _ 2 2)

/-- The place that the reference finds is the one it has to find. -/
theorem winner_apply (x : FVec Ideal S2x384x224x224 .f32) (b : Fin 2) (r j : Fin 112) :
    Ref.winner x (ix3 b r j) = BitVec.ofNat 32 (best (Winner.four x b r j)) := by
  have key : Host.argReduce (reducer_argmax_f32_i32 (F := Ideal)) (Ref.blocks x) (iotaInDim S2x112x112x4 32 3)
      (constant S_ .f32 0xFF800000#32) (constantI S_ 32 0#32) reducesTo_S2x112x112x4_S2x112x112_d3 h_S_ (ix3 b r j)
      = (Winner.four x b r j (Winner.row (Winner.four x b r j)) (Winner.column (Winner.four x b r j)),
        BitVec.ofNat 32 (best (Winner.four x b r j))) := by
    rw [Ideal.argReduce_eq_reduce2, Host.reduce2_eq_foldl_fiber]
    have hmem : ∀ q, q ∈ Host.argReduceFiber (Ref.blocks x) (iotaInDim S2x112x112x4 32 3)
        reducesTo_S2x112x112x4_S2x112x112_d3 (ix3 b r j)
        ↔ ∃ u v, q = (Winner.four x b r j u v, BitVec.ofNat 32 (place u v)) := by
      intro q
      unfold Host.argReduceFiber
      simp only [List.mem_map, List.mem_filter, List.mem_finRange, true_and, decide_eq_true_eq]
      constructor
      · rintro ⟨n, hn, rfl⟩
        generalize S2x112x112x4.rowMajor.symm n = i at hn ⊢
        obtain ⟨b', r', j', k, rfl⟩ : ∃ b' r' j' k, i = ix4 b' r' j' k := by
          idx_vars i
          exact ⟨_, _, _, _, rfl⟩
        rw [drop_apply] at hn
        obtain rfl : b' = b := congrFun hn 0
        obtain rfl : r' = r := congrFun hn 1
        obtain rfl : j' = j := congrFun hn 2
        have hk : k = place ⟨k / 2, by omega⟩ ⟨k % 2, by omega⟩ := Fin.ext (by unfold place; dsimp only; omega)
        refine ⟨⟨k / 2, by omega⟩, ⟨k % 2, by omega⟩, ?_⟩
        rw [← hk, ← blocks_apply, ← hk]
        rfl
      · rintro ⟨u, v, rfl⟩
        refine ⟨S2x112x112x4.rowMajor (ix4 b r j (place u v)), ?_, ?_⟩
        · rw [Equiv.symm_apply_apply, drop_apply]
        · rw [Equiv.symm_apply_apply, blocks_apply]
          rfl
    refine foldl_eq _ _ _ ((hmem _).mpr ⟨_, _, rfl⟩) ?_ ?_
    · have hs : ((constant S_ .f32 0xFF800000#32 : FVec Ideal S_ .f32) (Shape.Idx.first h_S_), (constantI S_ 32 0#32) (Shape.Idx.first h_S_))
        = ((⊥ : EReal), 0#32) := congrArg₂ Prod.mk start_eq rfl
      rw [hs]
      exact best_beats_start _
    · intro q hq
      obtain ⟨u, v, rfl⟩ := (hmem q).mp hq
      exact best_beats _ u v
  exact congrArg Prod.snd key

end Cert.Proof.RefWinner
-- ==== Proof.RefValue.lean ====
/-
  The reference's result: `Winner.result`. Every index that it gathers by lies among a block's four places.
-/
module

public import proofs.«01_k».proof.Proof.RefWinner

@[expose] public noncomputable section

set_option maxRecDepth 16384

namespace Cert.Proof.RefValue

open Idealize.ShloMosaic Cert.ReferenceIdeal Cert.ReferenceIdeal.Gen
open RefWinner (place best)

/-- The encoded array, the four places of a block side by side. -/
theorem places_apply (e : FVec Ideal S2x384x224x224 .f32) (b : Fin 2) (r j : Fin 112) (c : Fin 384) (k : Fin 4) :
    Ref.places e (ix5 b r j c k) = e (ix4 b c ⟨2 * r + k / 2, by omega⟩ ⟨2 * j + k % 2, by omega⟩) := by
  unfold Ref.places
  pointwise []
  exact congrArg₂ (fun s t => e (ix4 b c s t)) (Fin.ext (by dsimp only; omega)) (Fin.ext (by dsimp only; omega))

/-- The index that a result gathers by is its block's winner. -/
theorem wrapped_apply (w : IVec S2x112x112 32) (b : Fin 2) (r j : Fin 112) (c : Fin 384) (k : Fin 4)
    (hw : w (ix3 b r j) = BitVec.ofNat 32 k) :
    Ref.wrapped (Ref.spread w) (ix6 b r j c (0 : Fin 1) (0 : Fin 1)) = BitVec.ofNat 32 k := by
  unfold Ref.wrapped Ref.spread
  pointwise []
  rw [hw]
  clear hw
  revert k
  decide

/-- The conjunction of ones is one. -/
theorem fold_and {ι : Type} [DecidableEq ι] (S : Finset ι) (f : ι → BitVec 1) (h : ∀ i ∈ S, f i = 1#1) :
    S.fold IntOp.andi (1#1) f = 1#1 := by
  induction S using Finset.induction_on with
  | empty => rfl
  | insert a S ha ih =>
    rw [Finset.fold_insert ha, h a (Finset.mem_insert_self _ _), ih fun i hi => h i (Finset.mem_insert_of_mem hi)]
    rfl

/-- The result that an index belongs to. -/
theorem drop_apply (b : Fin 2) (r j : Fin 112) (c : Fin 384) :
    Shape.ReducesTo.drop reducesTo_S2x112x112x384x1x1_S2x112x112x384x1_d5 (ix6 b r j c (0 : Fin 1) (0 : Fin 1))
      = ix5 b r j c (0 : Fin 1) := by
  have h := reducesTo_S2x112x112x384x1x1_S2x112x112x384x1_d5
  funext i
  fin_cases i
  · exact Fin.ext (Shape.ReducesTo.drop_apply_val_of_eq h _ 0 0)
  · exact Fin.ext (Shape.ReducesTo.drop_apply_val_of_eq h _ 1 1)
  · exact Fin.ext (Shape.ReducesTo.drop_apply_val_of_eq h _ 2 2)
  · exact Fin.ext (Shape.ReducesTo.drop_apply_val_of_eq h _ 3 3)
  · exact Fin.ext (Shape.ReducesTo.drop_apply_val_of_eq h _ 4 4)

/-- The index lies among the four places. -/
theorem inside_apply (i : IVec S2x112x112x384x1x1 32) (b : Fin 2) (r j : Fin 112) (c : Fin 384) (k : Fin 4)
    (hi : i (ix6 b r j c (0 : Fin 1) (0 : Fin 1)) = BitVec.ofNat 32 k) :
    Ref.inside i (ix5 b r j c (0 : Fin 1)) = 1#1 := by
  unfold Ref.inside
  pointwise []
  refine fold_and _ _ fun y hy => ?_
  obtain ⟨b', r', j', c', u, v, rfl⟩ : ∃ b' r' j' c' u v, y = ix6 b' r' j' c' u v := by
    idx_vars y
    exact ⟨_, _, _, _, _, _, rfl⟩
  obtain rfl : u = 0 := Subsingleton.elim _ _
  obtain rfl : v = 0 := Subsingleton.elim _ _
  rw [Finset.mem_filter, drop_apply] at hy
  obtain rfl : b' = b := congrFun hy.2 0
  obtain rfl : r' = r := congrFun hy.2 1
  obtain rfl : j' = j := congrFun hy.2 2
  obtain rfl : c' = c := congrFun hy.2 3
  rw [hi]
  clear hi hy
  revert k
  decide

/-- The dimension numbers of the gather. -/
abbrev dims : GatherDims S2x112x112x384x4 S2x112x112x384x1x1 S2x112x112x384x1 :=
  gather_S2x112x112x384x4_S2x112x112x384x1x1_S2x112x112x384x1_n_4_0123_0123_4_5_11111

/-- The coordinate of a result along an axis that it shares with the indices. -/
theorem siCoord_val (y : S2x112x112x384x1.Idx) (a : Fin 6) (a' : Fin 5) (h : a ∈ GatherDims.siKept dims)
    (ha : (a : ℕ) = a') : (GatherDims.siCoord dims y a h).val = y a' := by
  unfold GatherDims.siCoord
  rw [Fin.val_cast]
  have : ∀ (X Y : Fin 5), X = Y → (y X).val = (y Y).val := fun X Y h => by rw [h]
  refine this _ _ ?_
  obtain rfl : a = a'.castSucc := Fin.ext ha
  fin_cases a' <;> rfl

/-- The gathered entry: the result's own coordinates, and the index at the place among the four. -/
theorem gather_apply (p : FVec Ideal S2x112x112x384x4 .f32) (i : IVec S2x112x112x384x1x1 32)
    (b : Fin 2) (r j : Fin 112) (c : Fin 384) (k : Fin 4)
    (hi : i (ix6 b r j c (0 : Fin 1) (0 : Fin 1)) = BitVec.ofNat 32 k) :
    Host.gather dims p i (ix5 b r j c (0 : Fin 1)) = p (ix5 b r j c k) := by
  unfold Host.gather
  refine congrArg p ?_
  have batch : ∀ a : Fin 5, (ha : a.val < 4) → (GatherDims.operandIdx dims (ix5 b r j c (0 : Fin 1)) i a).val
      = (ix5 b r j c (0 : Fin 1) : S2x112x112x384x1.Idx) a := by
    intro a ha
    have hm : a ∈ GatherDims.operandBatchingDims dims := by
      revert ha
      revert a
      decide
    have hk : a ∉ GatherDims.sKept dims := fun h => ((GatherDims.mem_sKept dims a).mp h).2 hm
    unfold GatherDims.operandIdx
    dsimp only
    rw [GatherDims.start_batching dims _ _ a hm, GatherDims.offCoord_eq_zero dims _ a hk, Nat.zero_add, Nat.add_zero]
    unfold GatherDims.batchCoord
    rw [dif_pos hm]
    refine siCoord_val _ _ _ _ ?_
    clear hk
    revert hm
    revert ha
    revert a
    decide
  funext a
  fin_cases a
  · exact Fin.ext (batch 0 (by decide))
  · exact Fin.ext (batch 1 (by decide))
  · exact Fin.ext (batch 2 (by decide))
  · exact Fin.ext (batch 3 (by decide))
  · refine Fin.ext ?_
    show (GatherDims.operandIdx dims (ix5 b r j c (0 : Fin 1)) i 4).val = k.val
    have hm : (4 : Fin 5) ∈ GatherDims.startIndexMap dims := by decide
    have hb : (4 : Fin 5) ∉ GatherDims.operandBatchingDims dims := by decide
    have hk : (4 : Fin 5) ∉ GatherDims.sKept dims := by decide
    have hs : ∀ z, GatherDims.siIdx dims (ix5 b r j c (0 : Fin 1)) z = ix6 b r j c (0 : Fin 1) (0 : Fin 1) := by
      intro z
      funext a
      refine Fin.ext ?_
      unfold GatherDims.siIdx
      by_cases h : a.val = 5
      · rw [dif_pos (show a.val = GatherDims.indexVectorDim dims from h)]
        obtain rfl : a = 5 := Fin.ext h
        exact Nat.lt_one_iff.mp z.isLt
      · rw [dif_neg (show ¬ a.val = GatherDims.indexVectorDim dims from h)]
        have ha : a.val < 6 := a.isLt
        rw [siCoord_val _ a ⟨a, by omega⟩ _ rfl]
        revert ha
        fin_cases a
        · exact fun _ => rfl
        · exact fun _ => rfl
        · exact fun _ => rfl
        · exact fun _ => rfl
        · exact fun _ => rfl
        · exact absurd rfl h
    unfold GatherDims.operandIdx
    dsimp only
    rw [GatherDims.batchCoord_eq_zero dims _ _ hb, GatherDims.offCoord_eq_zero dims _ _ hk, Nat.add_zero]
    unfold GatherDims.start
    rw [dif_pos hm, hs, hi]
    show min (BitVec.ofNat 32 k).toInt.toNat 3 = k.val
    clear hi
    revert k
    decide

/-- The reference's result. -/
theorem pooled_eq (e x : FVec Ideal S2x384x224x224 .f32) : Ref.pooled e x = Winner.result e x := by
  funext y
  obtain ⟨b, c, r, j, rfl⟩ : ∃ b c r j, y = ix4 b c r j := by
    idx_vars y
    exact ⟨_, _, _, _, rfl⟩
  unfold Ref.pooled
  pointwise []
  have hi := wrapped_apply (Ref.winner x) b r j c _ (RefWinner.winner_apply x b r j)
  unfold Ref.taken
  pointwise []
  rw [inside_apply _ b r j c _ hi, gather_apply _ _ b r j c _ hi, places_apply]
  refine (if_pos rfl).trans ?_
  show _ = Winner.entry e x b c r j
  unfold best place Winner.entry
  exact congrArg₂ (fun s t => e (ix4 b c s t)) (Fin.ext (by dsimp only; omega)) (Fin.ext (by dsimp only; omega))

end Cert.Proof.RefValue
-- ==== Proof.lean ====
/-
  The certificate: both kernels and the reference run and leave their arguments as they were, with every semaphore back
  at zero, and on extended reals the kernel and the reference leave the same array.
-/
module

public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel, on bit patterns, terminates without a fault, keeps its arguments and ends with every semaphore at zero. -/
theorem frame_kernel : Cert.quiescent_Kernel := fun m ρ _ => Cert.Kernel.Gen.frame m ρ

/-- The same of the kernel on extended reals. -/
theorem frame_kernel_ideal : Cert.quiescent_KernelIdeal := fun m ρ _ => Cert.KernelIdeal.Gen.frame m ρ

/-- The same of the reference on extended reals, which has no semaphore. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Ref.run (F := Ideal) m ρ)

/-- On extended reals, from equal arguments, the kernel and the reference leave the same array: at each place the entry
    of the encoded array where the block's eighth greatest activation is greatest. -/
theorem algebraic : Cert.algebraic_KernelIdeal_ReferenceIdeal := by
  intro m ρ m' ρ' _ hagree
  refine ⟨_, KernelRun.run m ρ, ?_⟩
  refine (θ_run Cert.ReferenceIdeal.defs _ _).mono (fun r h c => ⟨(h c).1.trans ?_, (h c).2⟩)
    (Ref.run (F := Ideal) m' ρ')
  refine (RefValue.pooled_eq _ _).trans ?_
  exact congrArg₂ Winner.result (hagree c).1 (hagree c).2

/-- Everything that the certificate claims. -/
theorem claim : Cert.Claim :=
  ⟨Cert.Kernel.Gen.facts, Cert.KernelIdeal.Gen.facts, Cert.ReferenceIdeal.Gen.facts,
    frame_kernel, frame_kernel_ideal, frame_reference, trivial, algebraic⟩

end Cert.Proof

end
